-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DequantWq (m : (ℓ : Loc Cert.DequantWq.nD Cert.DequantWq.τ Cert.DequantWq.sig) → Buf (Elt Bits) ℓ) : Prop :=
  True

def Pre_DequantWqIdeal (m : (ℓ : Loc Cert.DequantWqIdeal.nD Cert.DequantWqIdeal.τ Cert.DequantWqIdeal.sig) → Buf (Elt Ideal) ℓ) : Prop :=
  True

def Pre_DequantWqRefIdeal (m : (ℓ : Loc Cert.DequantWqRefIdeal.nD Cert.DequantWqRefIdeal.τ Cert.DequantWqRefIdeal.sig) → Buf (Elt Ideal) ℓ) : Prop :=
  True

def Pre_DequantWo (m : (ℓ : Loc Cert.DequantWo.nD Cert.DequantWo.τ Cert.DequantWo.sig) → Buf (Elt Bits) ℓ) : Prop :=
  True

def Pre_DequantWoIdeal (m : (ℓ : Loc Cert.DequantWoIdeal.nD Cert.DequantWoIdeal.τ Cert.DequantWoIdeal.sig) → Buf (Elt Ideal) ℓ) : Prop :=
  True

def Pre_DequantWoRefIdeal (m : (ℓ : Loc Cert.DequantWoRefIdeal.nD Cert.DequantWoRefIdeal.τ Cert.DequantWoRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DequantWq [hDequantWq : Cert.DequantWq.Facts] : Prop :=
  ∀ (m : (ℓ : Loc Cert.DequantWq.nD Cert.DequantWq.τ Cert.DequantWq.sig) → Buf (Elt Bits) ℓ) (g : Dev Cert.DequantWq.nD → PrngReg), Pre_DequantWq m →
    θ_run (Cert.DequantWq.defs (F := Bits)) (onTc (τ := Cert.DequantWq.τ) (Cert.DequantWq.main (F := Bits))) ⟨m, fun _ => 0, g⟩ (fun r => (∀ c : Dev Cert.DequantWq.nD,
      r.2.mem ((c.tc : Thread Cert.DequantWq.nD Cert.DequantWq.τ).loc Cert.DequantWq.main_arg0) = m ((c.tc : Thread Cert.DequantWq.nD Cert.DequantWq.τ).loc Cert.DequantWq.main_arg0)
      ∧ r.2.mem ((c.tc : Thread Cert.DequantWq.nD Cert.DequantWq.τ).loc Cert.DequantWq.main_arg1) = m ((c.tc : Thread Cert.DequantWq.nD Cert.DequantWq.τ).loc Cert.DequantWq.main_arg1))
      ∧ r.2.sem = fun _ => 0)

def quiescent_DequantWqIdeal [hDequantWqIdeal : Cert.DequantWqIdeal.Facts] : Prop :=
  ∀ (m : (ℓ : Loc Cert.DequantWqIdeal.nD Cert.DequantWqIdeal.τ Cert.DequantWqIdeal.sig) → Buf (Elt Ideal) ℓ) (g : Dev Cert.DequantWqIdeal.nD → PrngReg), Pre_DequantWqIdeal m →
    θ_run (Cert.DequantWqIdeal.defs (F := Ideal)) (onTc (τ := Cert.DequantWqIdeal.τ) (Cert.DequantWqIdeal.main (F := Ideal))) ⟨m, fun _ => 0, g⟩ (fun r => (∀ c : Dev Cert.DequantWqIdeal.nD,
      r.2.mem ((c.tc : Thread Cert.DequantWqIdeal.nD Cert.DequantWqIdeal.τ).loc Cert.DequantWqIdeal.main_arg0) = m ((c.tc : Thread Cert.DequantWqIdeal.nD Cert.DequantWqIdeal.τ).loc Cert.DequantWqIdeal.main_arg0)
      ∧ r.2.mem ((c.tc : Thread Cert.DequantWqIdeal.nD Cert.DequantWqIdeal.τ).loc Cert.DequantWqIdeal.main_arg1) = m ((c.tc : Thread Cert.DequantWqIdeal.nD Cert.DequantWqIdeal.τ).loc Cert.DequantWqIdeal.main_arg1))
      ∧ r.2.sem = fun _ => 0)

def quiescent_DequantWqRefIdeal [hDequantWqRefIdeal : Cert.DequantWqRefIdeal.Facts] : Prop :=
  ∀ (m : (ℓ : Loc Cert.DequantWqRefIdeal.nD Cert.DequantWqRefIdeal.τ Cert.DequantWqRefIdeal.sig) → Buf (Elt Ideal) ℓ) (g : Dev Cert.DequantWqRefIdeal.nD → PrngReg), Pre_DequantWqRefIdeal m →
    θ_run (Cert.DequantWqRefIdeal.defs (F := Ideal)) (onTc (τ := Cert.DequantWqRefIdeal.τ) (Cert.DequantWqRefIdeal.main (F := Ideal))) ⟨m, fun _ => 0, g⟩ (fun r => (∀ c : Dev Cert.DequantWqRefIdeal.nD,
      r.2.mem ((c.tc : Thread Cert.DequantWqRefIdeal.nD Cert.DequantWqRefIdeal.τ).loc Cert.DequantWqRefIdeal.main_arg0) = m ((c.tc : Thread Cert.DequantWqRefIdeal.nD Cert.DequantWqRefIdeal.τ).loc Cert.DequantWqRefIdeal.main_arg0)
      ∧ r.2.mem ((c.tc : Thread Cert.DequantWqRefIdeal.nD Cert.DequantWqRefIdeal.τ).loc Cert.DequantWqRefIdeal.main_arg1) = m ((c.tc : Thread Cert.DequantWqRefIdeal.nD Cert.DequantWqRefIdeal.τ).loc Cert.DequantWqRefIdeal.main_arg1))
      ∧ r.2.sem = fun _ => 0)

def quiescent_DequantWo [hDequantWo : Cert.DequantWo.Facts] : Prop :=
  ∀ (m : (ℓ : Loc Cert.DequantWo.nD Cert.DequantWo.τ Cert.DequantWo.sig) → Buf (Elt Bits) ℓ) (g : Dev Cert.DequantWo.nD → PrngReg), Pre_DequantWo m →
    θ_run (Cert.DequantWo.defs (F := Bits)) (onTc (τ := Cert.DequantWo.τ) (Cert.DequantWo.main (F := Bits))) ⟨m, fun _ => 0, g⟩ (fun r => (∀ c : Dev Cert.DequantWo.nD,
      r.2.mem ((c.tc : Thread Cert.DequantWo.nD Cert.DequantWo.τ).loc Cert.DequantWo.main_arg0) = m ((c.tc : Thread Cert.DequantWo.nD Cert.DequantWo.τ).loc Cert.DequantWo.main_arg0)
      ∧ r.2.mem ((c.tc : Thread Cert.DequantWo.nD Cert.DequantWo.τ).loc Cert.DequantWo.main_arg1) = m ((c.tc : Thread Cert.DequantWo.nD Cert.DequantWo.τ).loc Cert.DequantWo.main_arg1))
      ∧ r.2.sem = fun _ => 0)

def quiescent_DequantWoIdeal [hDequantWoIdeal : Cert.DequantWoIdeal.Facts] : Prop :=
  ∀ (m : (ℓ : Loc Cert.DequantWoIdeal.nD Cert.DequantWoIdeal.τ Cert.DequantWoIdeal.sig) → Buf (Elt Ideal) ℓ) (g : Dev Cert.DequantWoIdeal.nD → PrngReg), Pre_DequantWoIdeal m →
    θ_run (Cert.DequantWoIdeal.defs (F := Ideal)) (onTc (τ := Cert.DequantWoIdeal.τ) (Cert.DequantWoIdeal.main (F := Ideal))) ⟨m, fun _ => 0, g⟩ (fun r => (∀ c : Dev Cert.DequantWoIdeal.nD,
      r.2.mem ((c.tc : Thread Cert.DequantWoIdeal.nD Cert.DequantWoIdeal.τ).loc Cert.DequantWoIdeal.main_arg0) = m ((c.tc : Thread Cert.DequantWoIdeal.nD Cert.DequantWoIdeal.τ).loc Cert.DequantWoIdeal.main_arg0)
      ∧ r.2.mem ((c.tc : Thread Cert.DequantWoIdeal.nD Cert.DequantWoIdeal.τ).loc Cert.DequantWoIdeal.main_arg1) = m ((c.tc : Thread Cert.DequantWoIdeal.nD Cert.DequantWoIdeal.τ).loc Cert.DequantWoIdeal.main_arg1))
      ∧ r.2.sem = fun _ => 0)

def quiescent_DequantWoRefIdeal [hDequantWoRefIdeal : Cert.DequantWoRefIdeal.Facts] : Prop :=
  ∀ (m : (ℓ : Loc Cert.DequantWoRefIdeal.nD Cert.DequantWoRefIdeal.τ Cert.DequantWoRefIdeal.sig) → Buf (Elt Ideal) ℓ) (g : Dev Cert.DequantWoRefIdeal.nD → PrngReg), Pre_DequantWoRefIdeal m →
    θ_run (Cert.DequantWoRefIdeal.defs (F := Ideal)) (onTc (τ := Cert.DequantWoRefIdeal.τ) (Cert.DequantWoRefIdeal.main (F := Ideal))) ⟨m, fun _ => 0, g⟩ (fun r => (∀ c : Dev Cert.DequantWoRefIdeal.nD,
      r.2.mem ((c.tc : Thread Cert.DequantWoRefIdeal.nD Cert.DequantWoRefIdeal.τ).loc Cert.DequantWoRefIdeal.main_arg0) = m ((c.tc : Thread Cert.DequantWoRefIdeal.nD Cert.DequantWoRefIdeal.τ).loc Cert.DequantWoRefIdeal.main_arg0)
      ∧ r.2.mem ((c.tc : Thread Cert.DequantWoRefIdeal.nD Cert.DequantWoRefIdeal.τ).loc Cert.DequantWoRefIdeal.main_arg1) = m ((c.tc : Thread Cert.DequantWoRefIdeal.nD Cert.DequantWoRefIdeal.τ).loc Cert.DequantWoRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5)
      ∧ r.2.mem ((c.tc : Thread Cert.AttnOutRefIdeal.nD Cert.AttnOutRefIdeal.τ).loc Cert.AttnOutRefIdeal.main_arg6) = m ((c.tc : Thread Cert.AttnOutRefIdeal.nD Cert.AttnOutRefIdeal.τ).loc Cert.AttnOutRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DequantWq_DequantWqIdeal : Prop :=
  True

def algebraic_DequantWqIdeal_DequantWqRefIdeal [hDequantWqIdeal : Cert.DequantWqIdeal.Facts] [hDequantWqRefIdeal : Cert.DequantWqRefIdeal.Facts] : Prop :=
  ∀ (m : (ℓ : Loc Cert.DequantWqIdeal.nD Cert.DequantWqIdeal.τ Cert.DequantWqIdeal.sig) → Buf (Elt Ideal) ℓ) (g : Dev Cert.DequantWqIdeal.nD → PrngReg)
    (m' : (ℓ : Loc Cert.DequantWqRefIdeal.nD Cert.DequantWqRefIdeal.τ Cert.DequantWqRefIdeal.sig) → Buf (Elt Ideal) ℓ) (g' : Dev Cert.DequantWqRefIdeal.nD → PrngReg), Pre_DequantWqIdeal m →
    (∀ c : Dev Cert.DequantWqIdeal.nD,
      m' ((c.tc : Thread Cert.DequantWqRefIdeal.nD Cert.DequantWqRefIdeal.τ).loc Cert.DequantWqRefIdeal.main_arg0) = m ((c.tc : Thread Cert.DequantWqIdeal.nD Cert.DequantWqIdeal.τ).loc Cert.DequantWqIdeal.main_arg0)
      ∧ m' ((c.tc : Thread Cert.DequantWqRefIdeal.nD Cert.DequantWqRefIdeal.τ).loc Cert.DequantWqRefIdeal.main_arg1) = m ((c.tc : Thread Cert.DequantWqIdeal.nD Cert.DequantWqIdeal.τ).loc Cert.DequantWqIdeal.main_arg1)) →
    ∃ (v0 : (c : Dev Cert.DequantWqIdeal.nD) → Buf (Elt Ideal) ((c.tc : Thread Cert.DequantWqIdeal.nD Cert.DequantWqIdeal.τ).loc Cert.DequantWqIdeal.main_v0)),
      θ_run (Cert.DequantWqIdeal.defs (F := Ideal)) (onTc (τ := Cert.DequantWqIdeal.τ) (Cert.DequantWqIdeal.main (F := Ideal))) ⟨m, fun _ => 0, g⟩ (fun r => ∀ c : Dev Cert.DequantWqIdeal.nD,
          r.2.mem ((c.tc : Thread Cert.DequantWqIdeal.nD Cert.DequantWqIdeal.τ).loc Cert.DequantWqIdeal.main_v0) = v0 c
          ∧ r.2.mem ((c.tc : Thread Cert.DequantWqIdeal.nD Cert.DequantWqIdeal.τ).loc Cert.DequantWqIdeal.main_arg0) = m ((c.tc : Thread Cert.DequantWqIdeal.nD Cert.DequantWqIdeal.τ).loc Cert.DequantWqIdeal.main_arg0)
          ∧ r.2.mem ((c.tc : Thread Cert.DequantWqIdeal.nD Cert.DequantWqIdeal.τ).loc Cert.DequantWqIdeal.main_arg1) = m ((c.tc : Thread Cert.DequantWqIdeal.nD Cert.DequantWqIdeal.τ).loc Cert.DequantWqIdeal.main_arg1))
      ∧ θ_run (Cert.DequantWqRefIdeal.defs (F := Ideal)) (onTc (τ := Cert.DequantWqRefIdeal.τ) (Cert.DequantWqRefIdeal.main (F := Ideal))) ⟨m', fun _ => 0, g'⟩ (fun r => ∀ c : Dev Cert.DequantWqRefIdeal.nD,
          r.2.mem ((c.tc : Thread Cert.DequantWqRefIdeal.nD Cert.DequantWqRefIdeal.τ).loc Cert.DequantWqRefIdeal.main_v0) = v0 c
          ∧ r.2.mem ((c.tc : Thread Cert.DequantWqRefIdeal.nD Cert.DequantWqRefIdeal.τ).loc Cert.DequantWqRefIdeal.main_arg0) = m' ((c.tc : Thread Cert.DequantWqRefIdeal.nD Cert.DequantWqRefIdeal.τ).loc Cert.DequantWqRefIdeal.main_arg0)
          ∧ r.2.mem ((c.tc : Thread Cert.DequantWqRefIdeal.nD Cert.DequantWqRefIdeal.τ).loc Cert.DequantWqRefIdeal.main_arg1) = m' ((c.tc : Thread Cert.DequantWqRefIdeal.nD Cert.DequantWqRefIdeal.τ).loc Cert.DequantWqRefIdeal.main_arg1))

def preserves_DequantWo_DequantWoIdeal : Prop :=
  True

def algebraic_DequantWoIdeal_DequantWoRefIdeal [hDequantWoIdeal : Cert.DequantWoIdeal.Facts] [hDequantWoRefIdeal : Cert.DequantWoRefIdeal.Facts] : Prop :=
  ∀ (m : (ℓ : Loc Cert.DequantWoIdeal.nD Cert.DequantWoIdeal.τ Cert.DequantWoIdeal.sig) → Buf (Elt Ideal) ℓ) (g : Dev Cert.DequantWoIdeal.nD → PrngReg)
    (m' : (ℓ : Loc Cert.DequantWoRefIdeal.nD Cert.DequantWoRefIdeal.τ Cert.DequantWoRefIdeal.sig) → Buf (Elt Ideal) ℓ) (g' : Dev Cert.DequantWoRefIdeal.nD → PrngReg), Pre_DequantWoIdeal m →
    (∀ c : Dev Cert.DequantWoIdeal.nD,
      m' ((c.tc : Thread Cert.DequantWoRefIdeal.nD Cert.DequantWoRefIdeal.τ).loc Cert.DequantWoRefIdeal.main_arg0) = m ((c.tc : Thread Cert.DequantWoIdeal.nD Cert.DequantWoIdeal.τ).loc Cert.DequantWoIdeal.main_arg0)
      ∧ m' ((c.tc : Thread Cert.DequantWoRefIdeal.nD Cert.DequantWoRefIdeal.τ).loc Cert.DequantWoRefIdeal.main_arg1) = m ((c.tc : Thread Cert.DequantWoIdeal.nD Cert.DequantWoIdeal.τ).loc Cert.DequantWoIdeal.main_arg1)) →
    ∃ (v0 : (c : Dev Cert.DequantWoIdeal.nD) → Buf (Elt Ideal) ((c.tc : Thread Cert.DequantWoIdeal.nD Cert.DequantWoIdeal.τ).loc Cert.DequantWoIdeal.main_v0)),
      θ_run (Cert.DequantWoIdeal.defs (F := Ideal)) (onTc (τ := Cert.DequantWoIdeal.τ) (Cert.DequantWoIdeal.main (F := Ideal))) ⟨m, fun _ => 0, g⟩ (fun r => ∀ c : Dev Cert.DequantWoIdeal.nD,
          r.2.mem ((c.tc : Thread Cert.DequantWoIdeal.nD Cert.DequantWoIdeal.τ).loc Cert.DequantWoIdeal.main_v0) = v0 c
          ∧ r.2.mem ((c.tc : Thread Cert.DequantWoIdeal.nD Cert.DequantWoIdeal.τ).loc Cert.DequantWoIdeal.main_arg0) = m ((c.tc : Thread Cert.DequantWoIdeal.nD Cert.DequantWoIdeal.τ).loc Cert.DequantWoIdeal.main_arg0)
          ∧ r.2.mem ((c.tc : Thread Cert.DequantWoIdeal.nD Cert.DequantWoIdeal.τ).loc Cert.DequantWoIdeal.main_arg1) = m ((c.tc : Thread Cert.DequantWoIdeal.nD Cert.DequantWoIdeal.τ).loc Cert.DequantWoIdeal.main_arg1))
      ∧ θ_run (Cert.DequantWoRefIdeal.defs (F := Ideal)) (onTc (τ := Cert.DequantWoRefIdeal.τ) (Cert.DequantWoRefIdeal.main (F := Ideal))) ⟨m', fun _ => 0, g'⟩ (fun r => ∀ c : Dev Cert.DequantWoRefIdeal.nD,
          r.2.mem ((c.tc : Thread Cert.DequantWoRefIdeal.nD Cert.DequantWoRefIdeal.τ).loc Cert.DequantWoRefIdeal.main_v0) = v0 c
          ∧ r.2.mem ((c.tc : Thread Cert.DequantWoRefIdeal.nD Cert.DequantWoRefIdeal.τ).loc Cert.DequantWoRefIdeal.main_arg0) = m' ((c.tc : Thread Cert.DequantWoRefIdeal.nD Cert.DequantWoRefIdeal.τ).loc Cert.DequantWoRefIdeal.main_arg0)
          ∧ r.2.mem ((c.tc : Thread Cert.DequantWoRefIdeal.nD Cert.DequantWoRefIdeal.τ).loc Cert.DequantWoRefIdeal.main_arg1) = m' ((c.tc : Thread Cert.DequantWoRefIdeal.nD Cert.DequantWoRefIdeal.τ).loc Cert.DequantWoRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)
      ∧ m' ((c.tc : Thread Cert.AttnOutRefIdeal.nD Cert.AttnOutRefIdeal.τ).loc Cert.AttnOutRefIdeal.main_arg6) = m ((c.tc : Thread Cert.AttnOutIdeal.nD Cert.AttnOutIdeal.τ).loc Cert.AttnOutIdeal.main_arg6)) →
    ∃ (v0 : (c : Dev Cert.AttnOutIdeal.nD) → Buf (Elt Ideal) ((c.tc : Thread Cert.AttnOutIdeal.nD Cert.AttnOutIdeal.τ).loc Cert.AttnOutIdeal.main_v2_0)) (v1 : (c : Dev Cert.AttnOutIdeal.nD) → Buf (Elt Ideal) ((c.tc : Thread Cert.AttnOutIdeal.nD Cert.AttnOutIdeal.τ).loc Cert.AttnOutIdeal.main_v2_1)) (v2 : (c : Dev Cert.AttnOutIdeal.nD) → Buf (Elt Ideal) ((c.tc : Thread Cert.AttnOutIdeal.nD Cert.AttnOutIdeal.τ).loc Cert.AttnOutIdeal.main_v2_2)) (v3 : (c : Dev Cert.AttnOutIdeal.nD) → Buf (Elt Ideal) ((c.tc : Thread Cert.AttnOutIdeal.nD Cert.AttnOutIdeal.τ).loc Cert.AttnOutIdeal.main_v2_3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2_0) = v0 c
          ∧ r.2.mem ((c.tc : Thread Cert.AttnOutIdeal.nD Cert.AttnOutIdeal.τ).loc Cert.AttnOutIdeal.main_v2_1) = v1 c
          ∧ r.2.mem ((c.tc : Thread Cert.AttnOutIdeal.nD Cert.AttnOutIdeal.τ).loc Cert.AttnOutIdeal.main_v2_2) = v2 c
          ∧ r.2.mem ((c.tc : Thread Cert.AttnOutIdeal.nD Cert.AttnOutIdeal.τ).loc Cert.AttnOutIdeal.main_v2_3) = v3 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
          ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v0_0) = v0 c
          ∧ r.2.mem ((c.tc : Thread Cert.AttnOutRefIdeal.nD Cert.AttnOutRefIdeal.τ).loc Cert.AttnOutRefIdeal.main_v0_1) = v1 c
          ∧ r.2.mem ((c.tc : Thread Cert.AttnOutRefIdeal.nD Cert.AttnOutRefIdeal.τ).loc Cert.AttnOutRefIdeal.main_v0_2) = v2 c
          ∧ r.2.mem ((c.tc : Thread Cert.AttnOutRefIdeal.nD Cert.AttnOutRefIdeal.τ).loc Cert.AttnOutRefIdeal.main_v0_3) = v3 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5)
          ∧ r.2.mem ((c.tc : Thread Cert.AttnOutRefIdeal.nD Cert.AttnOutRefIdeal.τ).loc Cert.AttnOutRefIdeal.main_arg6) = m' ((c.tc : Thread Cert.AttnOutRefIdeal.nD Cert.AttnOutRefIdeal.τ).loc Cert.AttnOutRefIdeal.main_arg6))

def Claim : Prop :=
  ∃ (hKernel : Cert.Kernel.Facts) (hKernelIdeal : Cert.KernelIdeal.Facts) (hReferenceIdeal : Cert.ReferenceIdeal.Facts) (hDequantWq : Cert.DequantWq.Facts) (hDequantWqIdeal : Cert.DequantWqIdeal.Facts) (hDequantWqRefIdeal : Cert.DequantWqRefIdeal.Facts) (hDequantWo : Cert.DequantWo.Facts) (hDequantWoIdeal : Cert.DequantWoIdeal.Facts) (hDequantWoRefIdeal : Cert.DequantWoRefIdeal.Facts) (hAttnOut : Cert.AttnOut.Facts) (hAttnOutIdeal : Cert.AttnOutIdeal.Facts) (hAttnOutRefIdeal : Cert.AttnOutRefIdeal.Facts),
    quiescent_Kernel (hKernel := hKernel)
    ∧ quiescent_KernelIdeal (hKernelIdeal := hKernelIdeal)
    ∧ quiescent_ReferenceIdeal (hReferenceIdeal := hReferenceIdeal)
    ∧ quiescent_DequantWq (hDequantWq := hDequantWq)
    ∧ quiescent_DequantWqIdeal (hDequantWqIdeal := hDequantWqIdeal)
    ∧ quiescent_DequantWqRefIdeal (hDequantWqRefIdeal := hDequantWqRefIdeal)
    ∧ quiescent_DequantWo (hDequantWo := hDequantWo)
    ∧ quiescent_DequantWoIdeal (hDequantWoIdeal := hDequantWoIdeal)
    ∧ quiescent_DequantWoRefIdeal (hDequantWoRefIdeal := hDequantWoRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ preserves_Kernel_KernelIdeal
    ∧ algebraic_KernelIdeal_ReferenceIdeal (hKernelIdeal := hKernelIdeal) (hReferenceIdeal := hReferenceIdeal)
    ∧ preserves_DequantWq_DequantWqIdeal
    ∧ algebraic_DequantWqIdeal_DequantWqRefIdeal (hDequantWqIdeal := hDequantWqIdeal) (hDequantWqRefIdeal := hDequantWqRefIdeal)
    ∧ preserves_DequantWo_DequantWoIdeal
    ∧ algebraic_DequantWoIdeal_DequantWoRefIdeal (hDequantWoIdeal := hDequantWoIdeal) (hDequantWoRefIdeal := hDequantWoRefIdeal)
    ∧ preserves_AttnOut_AttnOutIdeal
    ∧ algebraic_AttnOutIdeal_AttnOutRefIdeal (hAttnOutIdeal := hAttnOutIdeal) (hAttnOutRefIdeal := hAttnOutRefIdeal)
-- ==== Kernel.lean ====
abbrev S3x4096x8192 : Shape := ⟨3, ![3, 4096, 8192]⟩
abbrev S3x4096x64 : Shape := ⟨3, ![3, 4096, 64]⟩
abbrev S8192x1024 : Shape := ⟨2, ![8192, 1024]⟩
abbrev S8x128 : Shape := ⟨2, ![8, 128]⟩
abbrev S16384x64 : Shape := ⟨2, ![16384, 64]⟩
abbrev S12288x8192 : Shape := ⟨2, ![12288, 8192]⟩
abbrev S12288x64 : Shape := ⟨2, ![12288, 64]⟩
abbrev S12288x1024 : Shape := ⟨2, ![12288, 1024]⟩
abbrev S12288x8 : Shape := ⟨2, ![12288, 8]⟩
abbrev S3x8x4096 : Shape := ⟨3, ![3, 8, 4096]⟩
abbrev S256x8192 : Shape := ⟨2, ![256, 8192]⟩
abbrev S256x64 : Shape := ⟨2, ![256, 64]⟩
abbrev S256x1024 : Shape := ⟨2, ![256, 1024]⟩
abbrev S256x8 : Shape := ⟨2, ![256, 8]⟩
abbrev S1x8x256 : Shape := ⟨3, ![1, 8, 256]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩
abbrev S8x256 : Shape := ⟨2, ![8, 256]⟩

abbrev nBuf : Space → Nat
  | .hbm => 11
  | .vmem => 18
  | .smem => 0
  | _ => 0

abbrev bufTy : (tb : Table) → Fin (tcTables nBuf tb) → BufTy
  | .hbm, ⟨0, _⟩ => ⟨S3x4096x8192, .fp8e4m3⟩
  | .hbm, ⟨1, _⟩ => ⟨S3x4096x64, .f32⟩
  | .hbm, ⟨2, _⟩ => ⟨S8192x1024, .bf16⟩
  | .hbm, ⟨3, _⟩ => ⟨S8x128, .f32⟩
  | .hbm, ⟨4, _⟩ => ⟨S16384x64, .f32⟩
  | .hbm, ⟨5, _⟩ => ⟨S16384x64, .f32⟩
  | .hbm, ⟨6, _⟩ => ⟨S12288x8192, .fp8e4m3⟩
  | .hbm, ⟨7, _⟩ => ⟨S12288x64, .f32⟩
  | .hbm, ⟨8, _⟩ => ⟨S12288x1024, .fp8e4m3⟩
  | .hbm, ⟨9, _⟩ => ⟨S12288x8, .f32⟩
  | .hbm, ⟨10, _⟩ => ⟨S3x8x4096, .f32⟩
  | .local _ .vmem, ⟨0, _⟩ => ⟨S256x8192, .fp8e4m3⟩
  | .local _ .vmem, ⟨1, _⟩ => ⟨S256x8192, .fp8e4m3⟩
  | .local _ .vmem, ⟨2, _⟩ => ⟨S256x64, .f32⟩
  | .local _ .vmem, ⟨3, _⟩ => ⟨S256x64, .f32⟩
  | .local _ .vmem, ⟨4, _⟩ => ⟨S8192x1024, .bf16⟩
  | .local _ .vmem, ⟨5, _⟩ => ⟨S8x128, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x1024, .fp8e4m3⟩
  | .local _ .vmem, ⟨11, _⟩ => ⟨S256x1024, .fp8e4m3⟩
  | .local _ .vmem, ⟨12, _⟩ => ⟨S256x8, .f32⟩
  | .local _ .vmem, ⟨13, _⟩ => ⟨S256x8, .f32⟩
  | .local _ .vmem, ⟨14, _⟩ => ⟨S1x8x256, .f32⟩
  | .local _ .vmem, ⟨15, _⟩ => ⟨S1x8x256, .f32⟩
  | .local _ .vmem, ⟨16, _⟩ => ⟨S256x8192, .bf16⟩
  | .local _ .vmem, ⟨17, _⟩ => ⟨S256x1024, .f32⟩
  | _, _ => ⟨S3x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v3 : BitVec 1 := Scalar.cmpi .slt arg0 c48_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c48_i32_2 : BitVec 32 := 48#32
  let v6 : BitVec 1 := Scalar.cmpi .eq arg0 c48_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 1 := Scalar.cmpi .slt v11 c8_i32
  let c16_i32_5 : BitVec 32 := 16#32
  let v13 : BitVec 32 := Scalar.addi c16_i32_5 v11
  let c40_i32 : BitVec 32 := 40#32
  let v14 : BitVec 32 := Scalar.addi c40_i32 v11
  let c8_i32_6 : BitVec 32 := 8#32
  let v15 : BitVec 32 := Scalar.subi v14 c8_i32_6
  let v16 : BitVec 32 := Scalar.select v12 v13 v15
  let c0_i32_7 : BitVec 32 := 0#32
  let c0_i32_8 : BitVec 32 := 0#32
  ![v16.toNat, c0_i32_7.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 1 := Scalar.cmpi .slt v11 c8_i32
  let c16_i32_5 : BitVec 32 := 16#32
  let v13 : BitVec 32 := Scalar.addi c16_i32_5 v11
  let c40_i32 : BitVec 32 := 40#32
  let v14 : BitVec 32 := Scalar.addi c40_i32 v11
  let c8_i32_6 : BitVec 32 := 8#32
  let v15 : BitVec 32 := Scalar.subi v14 c8_i32_6
  let v16 : BitVec 32 := Scalar.select v12 v13 v15
  let c0_i32_7 : BitVec 32 := 0#32
  let c0_i32_8 : BitVec 32 := 0#32
  ![v16.toNat, c0_i32_7.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

abbrev stage0_0 : Fin 2 → Memref sig .tc .vmem S256x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3x4096x8192 : Shape := ⟨3, ![3, 4096, 8192]⟩
abbrev S3x4096x64 : Shape := ⟨3, ![3, 4096, 64]⟩
abbrev S8192x1024 : Shape := ⟨2, ![8192, 1024]⟩
abbrev S8x128 : Shape := ⟨2, ![8, 128]⟩
abbrev S16384x64 : Shape := ⟨2, ![16384, 64]⟩
abbrev S12288x1024 : Shape := ⟨2, ![12288, 1024]⟩
abbrev S12288x8 : Shape := ⟨2, ![12288, 8]⟩
abbrev S3x8x4096 : Shape := ⟨3, ![3, 8, 4096]⟩
abbrev S12288x64x128 : Shape := ⟨3, ![12288, 64, 128]⟩
abbrev S12288x64 : Shape := ⟨2, ![12288, 64]⟩
abbrev S12288x64x1 : Shape := ⟨3, ![12288, 64, 1]⟩
abbrev S12288x8192 : Shape := ⟨2, ![12288, 8192]⟩
abbrev S3x4096x8x128 : Shape := ⟨4, ![3, 4096, 8, 128]⟩
abbrev S3x4096x8 : Shape := ⟨3, ![3, 4096, 8]⟩
abbrev S3x4096x8x1 : Shape := ⟨4, ![3, 4096, 8, 1]⟩
abbrev S1x1x8x128 : Shape := ⟨4, ![1, 1, 8, 128]⟩
abbrev S2048x64 : Shape := ⟨2, ![2048, 64]⟩
abbrev S1x2048x64 : Shape := ⟨3, ![1, 2048, 64]⟩
abbrev S2x2048x64 : Shape := ⟨3, ![2, 2048, 64]⟩
abbrev S1x2x2048x1x64 : Shape := ⟨5, ![1, 2, 2048, 1, 64]⟩
abbrev S3x2x2048x8x128 : Shape := ⟨5, ![3, 2, 2048, 8, 128]⟩
abbrev S3x2x2048x8x64 : Shape := ⟨5, ![3, 2, 2048, 8, 64]⟩

abbrev nBuf : Space → Nat
  | .hbm => 9
  | .vmem => 9
  | .smem => 0
  | _ => 0

abbrev bufTy : (tb : Table) → Fin (tcTables nBuf tb) → BufTy
  | .hbm, ⟨0, _⟩ => ⟨S3x4096x8192, .fp8e4m3⟩
  | .hbm, ⟨1, _⟩ => ⟨S3x4096x64, .f32⟩
  | .hbm, ⟨2, _⟩ => ⟨S8192x1024, .bf16⟩
  | .hbm, ⟨3, _⟩ => ⟨S8x128, .f32⟩
  | .hbm, ⟨4, _⟩ => ⟨S16384x64, .f32⟩
  | .hbm, ⟨5, _⟩ => ⟨S16384x64, .f32⟩
  | .hbm, ⟨6, _⟩ => ⟨S12288x1024, .fp8e4m3⟩
  | .hbm, ⟨7, _⟩ => ⟨S12288x8, .f32⟩
  | .hbm, ⟨8, _⟩ => ⟨S3x8x4096, .f32⟩
  | .local _ .vmem, ⟨0, _⟩ => ⟨S3x4096x8192, .fp8e4m3⟩
  | .local _ .vmem, ⟨1, _⟩ => ⟨S3x4096x64, .f32⟩
  | .local _ .vmem, ⟨2, _⟩ => ⟨S8192x1024, .bf16⟩
  | .local _ .vmem, ⟨3, _⟩ => ⟨S8x128, .f32⟩
  | .local _ .vmem, ⟨4, _⟩ => ⟨S16384x64, .f32⟩
  | .local _ .vmem, ⟨5, _⟩ => ⟨S16384x64, .f32⟩
  | .local _ .vmem, ⟨6, _⟩ => ⟨S12288x1024, .fp8e4m3⟩
  | .local _ .vmem, ⟨7, _⟩ => ⟨S12288x8, .f32⟩
  | .local _ .vmem, ⟨8, _⟩ => ⟨S3x8x4096, .f32⟩
  | _, _ => ⟨S3x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DequantWq.lean ====
abbrev S8192x1024 : Shape := ⟨2, ![8192, 1024]⟩
abbrev S64x8 : Shape := ⟨2, ![64, 8]⟩
abbrev S1024x1024 : Shape := ⟨2, ![1024, 1024]⟩
abbrev S1x1 : Shape := ⟨2, ![1, 1]⟩
abbrev S128x128 : Shape := ⟨2, ![128, 128]⟩

abbrev nBuf : Space → Nat
  | .hbm => 3
  | .vmem => 4
  | .smem => 1
  | _ => 0

abbrev bufTy : (tb : Table) → Fin (tcTables nBuf tb) → BufTy
  | .hbm, ⟨0, _⟩ => ⟨S8192x1024, .fp8e4m3⟩
  | .hbm, ⟨1, _⟩ => ⟨S64x8, .f32⟩
  | .hbm, ⟨2, _⟩ => ⟨S8192x1024, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1024x1024, .bf16⟩
  | .local _ .vmem, ⟨3, _⟩ => ⟨S1024x1024, .bf16⟩
  | .local _ .smem, ⟨0, _⟩ => ⟨S64x8, .f32⟩
  | _, _ => ⟨S8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  let c0 : Index := 0#32
  ![v2.toNat, 0]
def k0_off2 (i : grid0.Coords) (c0_i32_4 : BitVec 32) : Fin 2 → Nat :=
  let arg0 : BitVec 32 := BitVec.ofNat 32 (i 0).val
  let c8_i32 : BitVec 32 := 8#32
  let v0 : BitVec 32 := Scalar.muli arg0 c8_i32
  let v10 : BitVec 32 := Scalar.addi v0 c0_i32_4
  let v11 : Index := Scalar.indexCast v10
  let c1 : Index := 1#32
  ![v11.toNat, 1]
def k0_off3 (i : grid0.Coords) (c0_i32_8 : BitVec 32) : Fin 2 → Nat :=
  let arg0 : BitVec 32 := BitVec.ofNat 32 (i 0).val
  let c8_i32 : BitVec 32 := 8#32
  let v0 : BitVec 32 := Scalar.muli arg0 c8_i32
  let v19 : BitVec 32 := Scalar.addi v0 c0_i32_8
  let v20 : Index := Scalar.indexCast v19
  let c2 : Index := 2#32
  ![v20.toNat, 2]
def k0_off4 (i : grid0.Coords) (c0_i32_12 : BitVec 32) : Fin 2 → Nat :=
  let arg0 : BitVec 32 := BitVec.ofNat 32 (i 0).val
  let c8_i32 : BitVec 32 := 8#32
  let v0 : BitVec 32 := Scalar.muli arg0 c8_i32
  let v28 : BitVec 32 := Scalar.addi v0 c0_i32_12
  let v29 : Index := Scalar.indexCast v28
  let c3 : Index := 3#32
  ![v29.toNat, 3]
def k0_off5 (i : grid0.Coords) (c0_i32_16 : BitVec 32) : Fin 2 → Nat :=
  let arg0 : BitVec 32 := BitVec.ofNat 32 (i 0).val
  let c8_i32 : BitVec 32 := 8#32
  let v0 : BitVec 32 := Scalar.muli arg0 c8_i32
  let v37 : BitVec 32 := Scalar.addi v0 c0_i32_16
  let v38 : Index := Scalar.indexCast v37
  let c4 : Index := 4#32
  ![v38.toNat, 4]
def k0_off6 (i : grid0.Coords) (c0_i32_20 : BitVec 32) : Fin 2 → Nat :=
  let arg0 : BitVec 32 := BitVec.ofNat 32 (i 0).val
  let c8_i32 : BitVec 32 := 8#32
  let v0 : BitVec 32 := Scalar.muli arg0 c8_i32
  let v46 : BitVec 32 := Scalar.addi v0 c0_i32_20
  let v47 : Index := Scalar.indexCast v46
  let c5 : Index := 5#32
  ![v47.toNat, 5]
def k0_off7 (i : grid0.Coords) (c0_i32_24 : BitVec 32) : Fin 2 → Nat :=
  let arg0 : BitVec 32 := BitVec.ofNat 32 (i 0).val
  let c8_i32 : BitVec 32 := 8#32
  let v0 : BitVec 32 := Scalar.muli arg0 c8_i32
  let v55 : BitVec 32 := Scalar.addi v0 c0_i32_24
  let v56 : Index := Scalar.indexCast v55
  let c6 : Index := 6#32
  ![v56.toNat, 6]
def k0_off8 (i : grid0.Coords) (c0_i32_28 : BitVec 32) : Fin 2 → Nat :=
  let arg0 : BitVec 32 := BitVec.ofNat 32 (i 0).val
  let c8_i32 : BitVec 32 := 8#32
  let v0 : BitVec 32 := Scalar.muli arg0 c8_i32
  let v64 : BitVec 32 := Scalar.addi v0 c0_i32_28
  let v65 : Index := Scalar.indexCast v64
  let c7 : Index := 7#32
  ![v65.toNat, 7]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S64x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DequantWqRefIdeal.lean ====
abbrev S8192x1024 : Shape := ⟨2, ![8192, 1024]⟩
abbrev S64x8 : Shape := ⟨2, ![64, 8]⟩
abbrev S64x128x8x128 : Shape := ⟨4, ![64, 128, 8, 128]⟩
abbrev S64x1x8x1 : Shape := ⟨4, ![64, 1, 8, 1]⟩

abbrev nBuf : Space → Nat
  | .hbm => 3
  | .vmem => 3
  | .smem => 0
  | _ => 0

abbrev bufTy : (tb : Table) → Fin (tcTables nBuf tb) → BufTy
  | .hbm, ⟨0, _⟩ => ⟨S8192x1024, .fp8e4m3⟩
  | .hbm, ⟨1, _⟩ => ⟨S64x8, .f32⟩
  | .hbm, ⟨2, _⟩ => ⟨S8192x1024, .bf16⟩
  | .local _ .vmem, ⟨0, _⟩ => ⟨S8192x1024, .fp8e4m3⟩
  | .local _ .vmem, ⟨1, _⟩ => ⟨S64x8, .f32⟩
  | .local _ .vmem, ⟨2, _⟩ => ⟨S8192x1024, .bf16⟩
  | _, _ => ⟨S8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DequantWo.lean ====
abbrev S1024x8192 : Shape := ⟨2, ![1024, 8192]⟩
abbrev S8x64 : Shape := ⟨2, ![8, 64]⟩
abbrev S256x8192 : Shape := ⟨2, ![256, 8192]⟩
abbrev S1x1 : Shape := ⟨2, ![1, 1]⟩
abbrev S128x128 : Shape := ⟨2, ![128, 128]⟩

abbrev nBuf : Space → Nat
  | .hbm => 3
  | .vmem => 4
  | .smem => 1
  | _ => 0

abbrev bufTy : (tb : Table) → Fin (tcTables nBuf tb) → BufTy
  | .hbm, ⟨0, _⟩ => ⟨S1024x8192, .fp8e4m3⟩
  | .hbm, ⟨1, _⟩ => ⟨S8x64, .f32⟩
  | .hbm, ⟨2, _⟩ => ⟨S1024x8192, .bf16⟩
  | .local _ .vmem, ⟨0, _⟩ => ⟨S256x8192, .fp8e4m3⟩
  | .local _ .vmem, ⟨1, _⟩ => ⟨S256x8192, .fp8e4m3⟩
  | .local _ .vmem, ⟨2, _⟩ => ⟨S256x8192, .bf16⟩
  | .local _ .vmem, ⟨3, _⟩ => ⟨S256x8192, .bf16⟩
  | .local _ .smem, ⟨0, _⟩ => ⟨S8x64, .f32⟩
  | _, _ => ⟨S1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c0 : Index := 0#32
  ![v2.toNat, 0]
def k0_off2 (i : grid0.Coords) (c0_i32_4 : BitVec 32) : Fin 2 → Nat :=
  let arg0 : BitVec 32 := BitVec.ofNat 32 (i 0).val
  let c2_i32 : BitVec 32 := 2#32
  let v0 : BitVec 32 := Scalar.muli arg0 c2_i32
  let v10 : BitVec 32 := Scalar.addi v0 c0_i32_4
  let v11 : Index := Scalar.indexCast v10
  let c1 : Index := 1#32
  ![v11.toNat, 1]
def k0_off3 (i : grid0.Coords) (c0_i32_8 : BitVec 32) : Fin 2 → Nat :=
  let arg0 : BitVec 32 := BitVec.ofNat 32 (i 0).val
  let c2_i32 : BitVec 32 := 2#32
  let v0 : BitVec 32 := Scalar.muli arg0 c2_i32
  let v19 : BitVec 32 := Scalar.addi v0 c0_i32_8
  let v20 : Index := Scalar.indexCast v19
  let c2 : Index := 2#32
  ![v20.toNat, 2]
def k0_off4 (i : grid0.Coords) (c0_i32_12 : BitVec 32) : Fin 2 → Nat :=
  let arg0 : BitVec 32 := BitVec.ofNat 32 (i 0).val
  let c2_i32 : BitVec 32 := 2#32
  let v0 : BitVec 32 := Scalar.muli arg0 c2_i32
  let v28 : BitVec 32 := Scalar.addi v0 c0_i32_12
  let v29 : Index := Scalar.indexCast v28
  let c3 : Index := 3#32
  ![v29.toNat, 3]
def k0_off5 (i : grid0.Coords) (c0_i32_16 : BitVec 32) : Fin 2 → Nat :=
  let arg0 : BitVec 32 := BitVec.ofNat 32 (i 0).val
  let c2_i32 : BitVec 32 := 2#32
  let v0 : BitVec 32 := Scalar.muli arg0 c2_i32
  let v37 : BitVec 32 := Scalar.addi v0 c0_i32_16
  let v38 : Index := Scalar.indexCast v37
  let c4 : Index := 4#32
  ![v38.toNat, 4]
def k0_off6 (i : grid0.Coords) (c0_i32_20 : BitVec 32) : Fin 2 → Nat :=
  let arg0 : BitVec 32 := BitVec.ofNat 32 (i 0).val
  let c2_i32 : BitVec 32 := 2#32
  let v0 : BitVec 32 := Scalar.muli arg0 c2_i32
  let v46 : BitVec 32 := Scalar.addi v0 c0_i32_20
  let v47 : Index := Scalar.indexCast v46
  let c5 : Index := 5#32
  ![v47.toNat, 5]
def k0_off7 (i : grid0.Coords) (c0_i32_24 : BitVec 32) : Fin 2 → Nat :=
  let arg0 : BitVec 32 := BitVec.ofNat 32 (i 0).val
  let c2_i32 : BitVec 32 := 2#32
  let v0 : BitVec 32 := Scalar.muli arg0 c2_i32
  let v55 : BitVec 32 := Scalar.addi v0 c0_i32_24
  let v56 : Index := Scalar.indexCast v55
  let c6 : Index := 6#32
  ![v56.toNat, 6]
def k0_off8 (i : grid0.Coords) (c0_i32_28 : BitVec 32) : Fin 2 → Nat :=
  let arg0 : BitVec 32 := BitVec.ofNat 32 (i 0).val
  let c2_i32 : BitVec 32 := 2#32
  let v0 : BitVec 32 := Scalar.muli arg0 c2_i32
  let v64 : BitVec 32 := Scalar.addi v0 c0_i32_28
  let v65 : Index := Scalar.indexCast v64
  let c7 : Index := 7#32
  ![v65.toNat, 7]
def k0_off9 (i : grid0.Coords) (c0_i32_32 : BitVec 32) : Fin 2 → Nat :=
  let arg0 : BitVec 32 := BitVec.ofNat 32 (i 0).val
  let c2_i32 : BitVec 32 := 2#32
  let v0 : BitVec 32 := Scalar.muli arg0 c2_i32
  let v73 : BitVec 32 := Scalar.addi v0 c0_i32_32
  let v74 : Index := Scalar.indexCast v73
  let c8 : Index := 8#32
  ![v74.toNat, 8]
def k0_off10 (i : grid0.Coords) (c0_i32_36 : BitVec 32) : Fin 2 → Nat :=
  let arg0 : BitVec 32 := BitVec.ofNat 32 (i 0).val
  let c2_i32 : BitVec 32 := 2#32
  let v0 : BitVec 32 := Scalar.muli arg0 c2_i32
  let v82 : BitVec 32 := Scalar.addi v0 c0_i32_36
  let v83 : Index := Scalar.indexCast v82
  let c9 : Index := 9#32
  ![v83.toNat, 9]
def k0_off11 (i : grid0.Coords) (c0_i32_40 : BitVec 32) : Fin 2 → Nat :=
  let arg0 : BitVec 32 := BitVec.ofNat 32 (i 0).val
  let c2_i32 : BitVec 32 := 2#32
  let v0 : BitVec 32 := Scalar.muli arg0 c2_i32
  let v91 : BitVec 32 := Scalar.addi v0 c0_i32_40
  let v92 : Index := Scalar.indexCast v91
  let c10 : Index := 10#32
  ![v92.toNat, 10]
def k0_off12 (i : grid0.Coords) (c0_i32_44 : BitVec 32) : Fin 2 → Nat :=
  let arg0 : BitVec 32 := BitVec.ofNat 32 (i 0).val
  let c2_i32 : BitVec 32 := 2#32
  let v0 : BitVec 32 := Scalar.muli arg0 c2_i32
  let v100 : BitVec 32 := Scalar.addi v0 c0_i32_44
  let v101 : Index := Scalar.indexCast v100
  let c11 : Index := 11#32
  ![v101.toNat, 11]
def k0_off13 (i : grid0.Coords) (c0_i32_48 : BitVec 32) : Fin 2 → Nat :=
  let arg0 : BitVec 32 := BitVec.ofNat 32 (i 0).val
  let c2_i32 : BitVec 32 := 2#32
  let v0 : BitVec 32 := Scalar.muli arg0 c2_i32
  let v109 : BitVec 32 := Scalar.addi v0 c0_i32_48
  let v110 : Index := Scalar.indexCast v109
  let c12 : Index := 12#32
  ![v110.toNat, 12]
def k0_off14 (i : grid0.Coords) (c0_i32_52 : BitVec 32) : Fin 2 → Nat :=
  let arg0 : BitVec 32 := BitVec.ofNat 32 (i 0).val
  let c2_i32 : BitVec 32 := 2#32
  let v0 : BitVec 32 := Scalar.muli arg0 c2_i32
  let v118 : BitVec 32 := Scalar.addi v0 c0_i32_52
  let v119 : Index := Scalar.indexCast v118
  let c13 : Index := 13#32
  ![v119.toNat, 13]
def k0_off15 (i : grid0.Coords) (c0_i32_56 : BitVec 32) : Fin 2 → Nat :=
  let arg0 : BitVec 32 := BitVec.ofNat 32 (i 0).val
  let c2_i32 : BitVec 32 := 2#32
  let v0 : BitVec 32 := Scalar.muli arg0 c2_i32
  let v127 : BitVec 32 := Scalar.addi v0 c0_i32_56
  let v128 : Index := Scalar.indexCast v127
  let c14 : Index := 14#32
  ![v128.toNat, 14]
def k0_off16 (i : grid0.Coords) (c0_i32_60 : BitVec 32) : Fin 2 → Nat :=
  let arg0 : BitVec 32 := BitVec.ofNat 32 (i 0).val
  let c2_i32 : BitVec 32 := 2#32
  let v0 : BitVec 32 := Scalar.muli arg0 c2_i32
  let v136 : BitVec 32 := Scalar.addi v0 c0_i32_60
  let v137 : Index := Scalar.indexCast v136
  let c15 : Index := 15#32
  ![v137.toNat, 15]
def k0_off17 (i : grid0.Coords) (c0_i32_64 : BitVec 32) : Fin 2 → Nat :=
  let arg0 : BitVec 32 := BitVec.ofNat 32 (i 0).val
  let c2_i32 : BitVec 32 := 2#32
  let v0 : BitVec 32 := Scalar.muli arg0 c2_i32
  let v145 : BitVec 32 := Scalar.addi v0 c0_i32_64
  let v146 : Index := Scalar.indexCast v145
  let c16 : Index := 16#32
  ![v146.toNat, 16]
def k0_off18 (i : grid0.Coords) (c0_i32_68 : BitVec 32) : Fin 2 → Nat :=
  let arg0 : BitVec 32 := BitVec.ofNat 32 (i 0).val
  let c2_i32 : BitVec 32 := 2#32
  let v0 : BitVec 32 := Scalar.muli arg0 c2_i32
  let v154 : BitVec 32 := Scalar.addi v0 c0_i32_68
  let v155 : Index := Scalar.indexCast v154
  let c17 : Index := 17#32
  ![v155.toNat, 17]
def k0_off19 (i : grid0.Coords) (c0_i32_72 : BitVec 32) : Fin 2 → Nat :=
  let arg0 : BitVec 32 := BitVec.ofNat 32 (i 0).val
  let c2_i32 : BitVec 32 := 2#32
  let v0 : BitVec 32 := Scalar.muli arg0 c2_i32
  let v163 : BitVec 32 := Scalar.addi v0 c0_i32_72
  let v164 : Index := Scalar.indexCast v163
  let c18 : Index := 18#32
  ![v164.toNat, 18]
def k0_off20 (i : grid0.Coords) (c0_i32_76 : BitVec 32) : Fin 2 → Nat :=
  let arg0 : BitVec 32 := BitVec.ofNat 32 (i 0).val
  let c2_i32 : BitVec 32 := 2#32
  let v0 : BitVec 32 := Scalar.muli arg0 c2_i32
  let v172 : BitVec 32 := Scalar.addi v0 c0_i32_76
  let v173 : Index := Scalar.indexCast v172
  let c19 : Index := 19#32
  ![v173.toNat, 19]
def k0_off21 (i : grid0.Coords) (c0_i32_80 : BitVec 32) : Fin 2 → Nat :=
  let arg0 : BitVec 32 := BitVec.ofNat 32 (i 0).val
  let c2_i32 : BitVec 32 := 2#32
  let v0 : BitVec 32 := Scalar.muli arg0 c2_i32
  let v181 : BitVec 32 := Scalar.addi v0 c0_i32_80
  let v182 : Index := Scalar.indexCast v181
  let c20 : Index := 20#32
  ![v182.toNat, 20]
def k0_off22 (i : grid0.Coords) (c0_i32_84 : BitVec 32) : Fin 2 → Nat :=
  let arg0 : BitVec 32 := BitVec.ofNat 32 (i 0).val
  let c2_i32 : BitVec 32 := 2#32
  let v0 : BitVec 32 := Scalar.muli arg0 c2_i32
  let v190 : BitVec 32 := Scalar.addi v0 c0_i32_84
  let v191 : Index := Scalar.indexCast v190
  let c21 : Index := 21#32
  ![v191.toNat, 21]
def k0_off23 (i : grid0.Coords) (c0_i32_88 : BitVec 32) : Fin 2 → Nat :=
  let arg0 : BitVec 32 := BitVec.ofNat 32 (i 0).val
  let c2_i32 : BitVec 32 := 2#32
  let v0 : BitVec 32 := Scalar.muli arg0 c2_i32
  let v199 : BitVec 32 := Scalar.addi v0 c0_i32_88
  let v200 : Index := Scalar.indexCast v199
  let c22 : Index := 22#32
  ![v200.toNat, 22]
def k0_off24 (i : grid0.Coords) (c0_i32_92 : BitVec 32) : Fin 2 → Nat :=
  let arg0 : BitVec 32 := BitVec.ofNat 32 (i 0).val
  let c2_i32 : BitVec 32 := 2#32
  let v0 : BitVec 32 := Scalar.muli arg0 c2_i32
  let v208 : BitVec 32 := Scalar.addi v0 c0_i32_92
  let v209 : Index := Scalar.indexCast v208
  let c23 : Index := 23#32
  ![v209.toNat, 23]
def k0_off25 (i : grid0.Coords) (c0_i32_96 : BitVec 32) : Fin 2 → Nat :=
  let arg0 : BitVec 32 := BitVec.ofNat 32 (i 0).val
  let c2_i32 : BitVec 32 := 2#32
  let v0 : BitVec 32 := Scalar.muli arg0 c2_i32
  let v217 : BitVec 32 := Scalar.addi v0 c0_i32_96
  let v218 : Index := Scalar.indexCast v217
  let c24 : Index := 24#32
  ![v218.toNat, 24]
def k0_off26 (i : grid0.Coords) (c0_i32_100 : BitVec 32) : Fin 2 → Nat :=
  let arg0 : BitVec 32 := BitVec.ofNat 32 (i 0).val
  let c2_i32 : BitVec 32 := 2#32
  let v0 : BitVec 32 := Scalar.muli arg0 c2_i32
  let v226 : BitVec 32 := Scalar.addi v0 c0_i32_100
  let v227 : Index := Scalar.indexCast v226
  let c25 : Index := 25#32
  ![v227.toNat, 25]
def k0_off27 (i : grid0.Coords) (c0_i32_104 : BitVec 32) : Fin 2 → Nat :=
  let arg0 : BitVec 32 := BitVec.ofNat 32 (i 0).val
  let c2_i32 : BitVec 32 := 2#32
  let v0 : BitVec 32 := Scalar.muli arg0 c2_i32
  let v235 : BitVec 32 := Scalar.addi v0 c0_i32_104
  let v236 : Index := Scalar.indexCast v235
  let c26 : Index := 26#32
  ![v236.toNat, 26]
def k0_off28 (i : grid0.Coords) (c0_i32_108 : BitVec 32) : Fin 2 → Nat :=
  let arg0 : BitVec 32 := BitVec.ofNat 32 (i 0).val
  let c2_i32 : BitVec 32 := 2#32
  let v0 : BitVec 32 := Scalar.muli arg0 c2_i32
  let v244 : BitVec 32 := Scalar.addi v0 c0_i32_108
  let v245 : Index := Scalar.indexCast v244
  let c27 : Index := 27#32
  ![v245.toNat, 27]
def k0_off29 (i : grid0.Coords) (c0_i32_112 : BitVec 32) : Fin 2 → Nat :=
  let arg0 : BitVec 32 := BitVec.ofNat 32 (i 0).val
  let c2_i32 : BitVec 32 := 2#32
  let v0 : BitVec 32 := Scalar.muli arg0 c2_i32
  let v253 : BitVec 32 := Scalar.addi v0 c0_i32_112
  let v254 : Index := Scalar.indexCast v253
  let c28 : Index := 28#32
  ![v254.toNat, 28]
def k0_off30 (i : grid0.Coords) (c0_i32_116 : BitVec 32) : Fin 2 → Nat :=
  let arg0 : BitVec 32 := BitVec.ofNat 32 (i 0).val
  let c2_i32 : BitVec 32 := 2#32
  let v0 : BitVec 32 := Scalar.muli arg0 c2_i32
  let v262 : BitVec 32 := Scalar.addi v0 c0_i32_116
  let v263 : Index := Scalar.indexCast v262
  let c29 : Index := 29#32
  ![v263.toNat, 29]
def k0_off31 (i : grid0.Coords) (c0_i32_120 : BitVec 32) : Fin 2 → Nat :=
  let arg0 : BitVec 32 := BitVec.ofNat 32 (i 0).val
  let c2_i32 : BitVec 32 := 2#32
  let v0 : BitVec 32 := Scalar.muli arg0 c2_i32
  let v271 : BitVec 32 := Scalar.addi v0 c0_i32_120
  let v272 : Index := Scalar.indexCast v271
  let c30 : Index := 30#32
  ![v272.toNat, 30]
def k0_off32 (i : grid0.Coords) (c0_i32_124 : BitVec 32) : Fin 2 → Nat :=
  let arg0 : BitVec 32 := BitVec.ofNat 32 (i 0).val
  let c2_i32 : BitVec 32 := 2#32
  let v0 : BitVec 32 := Scalar.muli arg0 c2_i32
  let v280 : BitVec 32 := Scalar.addi v0 c0_i32_124
  let v281 : Index := Scalar.indexCast v280
  let c31 : Index := 31#32
  ![v281.toNat, 31]
def k0_off33 (i : grid0.Coords) (c0_i32_128 : BitVec 32) : Fin 2 → Nat :=
  let arg0 : BitVec 32 := BitVec.ofNat 32 (i 0).val
  let c2_i32 : BitVec 32 := 2#32
  let v0 : BitVec 32 := Scalar.muli arg0 c2_i32
  let v289 : BitVec 32 := Scalar.addi v0 c0_i32_128
  let v290 : Index := Scalar.indexCast v289
  let c32 : Index := 32#32
  ![v290.toNat, 32]
def k0_off34 (i : grid0.Coords) (c0_i32_132 : BitVec 32) : Fin 2 → Nat :=
  let arg0 : BitVec 32 := BitVec.ofNat 32 (i 0).val
  let c2_i32 : BitVec 32 := 2#32
  let v0 : BitVec 32 := Scalar.muli arg0 c2_i32
  let v298 : BitVec 32 := Scalar.addi v0 c0_i32_132
  let v299 : Index := Scalar.indexCast v298
  let c33 : Index := 33#32
  ![v299.toNat, 33]
def k0_off35 (i : grid0.Coords) (c0_i32_136 : BitVec 32) : Fin 2 → Nat :=
  let arg0 : BitVec 32 := BitVec.ofNat 32 (i 0).val
  let c2_i32 : BitVec 32 := 2#32
  let v0 : BitVec 32 := Scalar.muli arg0 c2_i32
  let v307 : BitVec 32 := Scalar.addi v0 c0_i32_136
  let v308 : Index := Scalar.indexCast v307
  let c34 : Index := 34#32
  ![v308.toNat, 34]
def k0_off36 (i : grid0.Coords) (c0_i32_140 : BitVec 32) : Fin 2 → Nat :=
  let arg0 : BitVec 32 := BitVec.ofNat 32 (i 0).val
  let c2_i32 : BitVec 32 := 2#32
  let v0 : BitVec 32 := Scalar.muli arg0 c2_i32
  let v316 : BitVec 32 := Scalar.addi v0 c0_i32_140
  let v317 : Index := Scalar.indexCast v316
  let c35 : Index := 35#32
  ![v317.toNat, 35]
def k0_off37 (i : grid0.Coords) (c0_i32_144 : BitVec 32) : Fin 2 → Nat :=
  let arg0 : BitVec 32 := BitVec.ofNat 32 (i 0).val
  let c2_i32 : BitVec 32 := 2#32
  let v0 : BitVec 32 := Scalar.muli arg0 c2_i32
  let v325 : BitVec 32 := Scalar.addi v0 c0_i32_144
  let v326 : Index := Scalar.indexCast v325
  let c36 : Index := 36#32
  ![v326.toNat, 36]
def k0_off38 (i : grid0.Coords) (c0_i32_148 : BitVec 32) : Fin 2 → Nat :=
  let arg0 : BitVec 32 := BitVec.ofNat 32 (i 0).val
  let c2_i32 : BitVec 32 := 2#32
  let v0 : BitVec 32 := Scalar.muli arg0 c2_i32
  let v334 : BitVec 32 := Scalar.addi v0 c0_i32_148
  let v335 : Index := Scalar.indexCast v334
  let c37 : Index := 37#32
  ![v335.toNat, 37]
def k0_off39 (i : grid0.Coords) (c0_i32_152 : BitVec 32) : Fin 2 → Nat :=
  let arg0 : BitVec 32 := BitVec.ofNat 32 (i 0).val
  let c2_i32 : BitVec 32 := 2#32
  let v0 : BitVec 32 := Scalar.muli arg0 c2_i32
  let v343 : BitVec 32 := Scalar.addi v0 c0_i32_152
  let v344 : Index := Scalar.indexCast v343
  let c38 : Index := 38#32
  ![v344.toNat, 38]
def k0_off40 (i : grid0.Coords) (c0_i32_156 : BitVec 32) : Fin 2 → Nat :=
  let arg0 : BitVec 32 := BitVec.ofNat 32 (i 0).val
  let c2_i32 : BitVec 32 := 2#32
  let v0 : BitVec 32 := Scalar.muli arg0 c2_i32
  let v352 : BitVec 32 := Scalar.addi v0 c0_i32_156
  let v353 : Index := Scalar.indexCast v352
  let c39 : Index := 39#32
  ![v353.toNat, 39]
def k0_off41 (i : grid0.Coords) (c0_i32_160 : BitVec 32) : Fin 2 → Nat :=
  let arg0 : BitVec 32 := BitVec.ofNat 32 (i 0).val
  let c2_i32 : BitVec 32 := 2#32
  let v0 : BitVec 32 := Scalar.muli arg0 c2_i32
  let v361 : BitVec 32 := Scalar.addi v0 c0_i32_160
  let v362 : Index := Scalar.indexCast v361
  let c40 : Index := 40#32
  ![v362.toNat, 40]
def k0_off42 (i : grid0.Coords) (c0_i32_164 : BitVec 32) : Fin 2 → Nat :=
  let arg0 : BitVec 32 := BitVec.ofNat 32 (i 0).val
  let c2_i32 : BitVec 32 := 2#32
  let v0 : BitVec 32 := Scalar.muli arg0 c2_i32
  let v370 : BitVec 32 := Scalar.addi v0 c0_i32_164
  let v371 : Index := Scalar.indexCast v370
  let c41 : Index := 41#32
  ![v371.toNat, 41]
def k0_off43 (i : grid0.Coords) (c0_i32_168 : BitVec 32) : Fin 2 → Nat :=
  let arg0 : BitVec 32 := BitVec.ofNat 32 (i 0).val
  let c2_i32 : BitVec 32 := 2#32
  let v0 : BitVec 32 := Scalar.muli arg0 c2_i32
  let v379 : BitVec 32 := Scalar.addi v0 c0_i32_168
  let v380 : Index := Scalar.indexCast v379
  let c42 : Index := 42#32
  ![v380.toNat, 42]
def k0_off44 (i : grid0.Coords) (c0_i32_172 : BitVec 32) : Fin 2 → Nat :=
  let arg0 : BitVec 32 := BitVec.ofNat 32 (i 0).val
  let c2_i32 : BitVec 32 := 2#32
  let v0 : BitVec 32 := Scalar.muli arg0 c2_i32
  let v388 : BitVec 32 := Scalar.addi v0 c0_i32_172
  let v389 : Index := Scalar.indexCast v388
  let c43 : Index := 43#32
  ![v389.toNat, 43]
def k0_off45 (i : grid0.Coords) (c0_i32_176 : BitVec 32) : Fin 2 → Nat :=
  let arg0 : BitVec 32 := BitVec.ofNat 32 (i 0).val
  let c2_i32 : BitVec 32 := 2#32
  let v0 : BitVec 32 := Scalar.muli arg0 c2_i32
  let v397 : BitVec 32 := Scalar.addi v0 c0_i32_176
  let v398 : Index := Scalar.indexCast v397
  let c44 : Index := 44#32
  ![v398.toNat, 44]
def k0_off46 (i : grid0.Coords) (c0_i32_180 : BitVec 32) : Fin 2 → Nat :=
  let arg0 : BitVec 32 := BitVec.ofNat 32 (i 0).val
  let c2_i32 : BitVec 32 := 2#32
  let v0 : BitVec 32 := Scalar.muli arg0 c2_i32
  let v406 : BitVec 32 := Scalar.addi v0 c0_i32_180
  let v407 : Index := Scalar.indexCast v406
  let c45 : Index := 45#32
  ![v407.toNat, 45]
def k0_off47 (i : grid0.Coords) (c0_i32_184 : BitVec 32) : Fin 2 → Nat :=
  let arg0 : BitVec 32 := BitVec.ofNat 32 (i 0).val
  let c2_i32 : BitVec 32 := 2#32
  let v0 : BitVec 32 := Scalar.muli arg0 c2_i32
  let v415 : BitVec 32 := Scalar.addi v0 c0_i32_184
  let v416 : Index := Scalar.indexCast v415
  let c46 : Index := 46#32
  ![v416.toNat, 46]
def k0_off48 (i : grid0.Coords) (c0_i32_188 : BitVec 32) : Fin 2 → Nat :=
  let arg0 : BitVec 32 := BitVec.ofNat 32 (i 0).val
  let c2_i32 : BitVec 32 := 2#32
  let v0 : BitVec 32 := Scalar.muli arg0 c2_i32
  let v424 : BitVec 32 := Scalar.addi v0 c0_i32_188
  let v425 : Index := Scalar.indexCast v424
  let c47 : Index := 47#32
  ![v425.toNat, 47]
def k0_off49 (i : grid0.Coords) (c0_i32_192 : BitVec 32) : Fin 2 → Nat :=
  let arg0 : BitVec 32 := BitVec.ofNat 32 (i 0).val
  let c2_i32 : BitVec 32 := 2#32
  let v0 : BitVec 32 := Scalar.muli arg0 c2_i32
  let v433 : BitVec 32 := Scalar.addi v0 c0_i32_192
  let v434 : Index := Scalar.indexCast v433
  let c48 : Index := 48#32
  ![v434.toNat, 48]
def k0_off50 (i : grid0.Coords) (c0_i32_196 : BitVec 32) : Fin 2 → Nat :=
  let arg0 : BitVec 32 := BitVec.ofNat 32 (i 0).val
  let c2_i32 : BitVec 32 := 2#32
  let v0 : BitVec 32 := Scalar.muli arg0 c2_i32
  let v442 : BitVec 32 := Scalar.addi v0 c0_i32_196
  let v443 : Index := Scalar.indexCast v442
  let c49 : Index := 49#32
  ![v443.toNat, 49]
def k0_off51 (i : grid0.Coords) (c0_i32_200 : BitVec 32) : Fin 2 → Nat :=
  let arg0 : BitVec 32 := BitVec.ofNat 32 (i 0).val
  let c2_i32 : BitVec 32 := 2#32
  let v0 : BitVec 32 := Scalar.muli arg0 c2_i32
  let v451 : BitVec 32 := Scalar.addi v0 c0_i32_200
  let v452 : Index := Scalar.indexCast v451
  let c50 : Index := 50#32
  ![v452.toNat, 50]
def k0_off52 (i : grid0.Coords) (c0_i32_204 : BitVec 32) : Fin 2 → Nat :=
  let arg0 : BitVec 32 := BitVec.ofNat 32 (i 0).val
  let c2_i32 : BitVec 32 := 2#32
  let v0 : BitVec 32 := Scalar.muli arg0 c2_i32
  let v460 : BitVec 32 := Scalar.addi v0 c0_i32_204
  let v461 : Index := Scalar.indexCast v460
  let c51 : Index := 51#32
  ![v461.toNat, 51]
def k0_off53 (i : grid0.Coords) (c0_i32_208 : BitVec 32) : Fin 2 → Nat :=
  let arg0 : BitVec 32 := BitVec.ofNat 32 (i 0).val
  let c2_i32 : BitVec 32 := 2#32
  let v0 : BitVec 32 := Scalar.muli arg0 c2_i32
  let v469 : BitVec 32 := Scalar.addi v0 c0_i32_208
  let v470 : Index := Scalar.indexCast v469
  let c52 : Index := 52#32
  ![v470.toNat, 52]
def k0_off54 (i : grid0.Coords) (c0_i32_212 : BitVec 32) : Fin 2 → Nat :=
  let arg0 : BitVec 32 := BitVec.ofNat 32 (i 0).val
  let c2_i32 : BitVec 32 := 2#32
  let v0 : BitVec 32 := Scalar.muli arg0 c2_i32
  let v478 : BitVec 32 := Scalar.addi v0 c0_i32_212
  let v479 : Index := Scalar.indexCast v478
  let c53 : Index := 53#32
  ![v479.toNat, 53]
def k0_off55 (i : grid0.Coords) (c0_i32_216 : BitVec 32) : Fin 2 → Nat :=
  let arg0 : BitVec 32 := BitVec.ofNat 32 (i 0).val
  let c2_i32 : BitVec 32 := 2#32
  let v0 : BitVec 32 := Scalar.muli arg0 c2_i32
  let v487 : BitVec 32 := Scalar.addi v0 c0_i32_216
  let v488 : Index := Scalar.indexCast v487
  let c54 : Index := 54#32
  ![v488.toNat, 54]
def k0_off56 (i : grid0.Coords) (c0_i32_220 : BitVec 32) : Fin 2 → Nat :=
  let arg0 : BitVec 32 := BitVec.ofNat 32 (i 0).val
  let c2_i32 : BitVec 32 := 2#32
  let v0 : BitVec 32 := Scalar.muli arg0 c2_i32
  let v496 : BitVec 32 := Scalar.addi v0 c0_i32_220
  let v497 : Index := Scalar.indexCast v496
  let c55 : Index := 55#32
  ![v497.toNat, 55]
def k0_off57 (i : grid0.Coords) (c0_i32_224 : BitVec 32) : Fin 2 → Nat :=
  let arg0 : BitVec 32 := BitVec.ofNat 32 (i 0).val
  let c2_i32 : BitVec 32 := 2#32
  let v0 : BitVec 32 := Scalar.muli arg0 c2_i32
  let v505 : BitVec 32 := Scalar.addi v0 c0_i32_224
  let v506 : Index := Scalar.indexCast v505
  let c56 : Index := 56#32
  ![v506.toNat, 56]
def k0_off58 (i : grid0.Coords) (c0_i32_228 : BitVec 32) : Fin 2 → Nat :=
  let arg0 : BitVec 32 := BitVec.ofNat 32 (i 0).val
  let c2_i32 : BitVec 32 := 2#32
  let v0 : BitVec 32 := Scalar.muli arg0 c2_i32
  let v514 : BitVec 32 := Scalar.addi v0 c0_i32_228
  let v515 : Index := Scalar.indexCast v514
  let c57 : Index := 57#32
  ![v515.toNat, 57]
def k0_off59 (i : grid0.Coords) (c0_i32_232 : BitVec 32) : Fin 2 → Nat :=
  let arg0 : BitVec 32 := BitVec.ofNat 32 (i 0).val
  let c2_i32 : BitVec 32 := 2#32
  let v0 : BitVec 32 := Scalar.muli arg0 c2_i32
  let v523 : BitVec 32 := Scalar.addi v0 c0_i32_232
  let v524 : Index := Scalar.indexCast v523
  let c58 : Index := 58#32
  ![v524.toNat, 58]
def k0_off60 (i : grid0.Coords) (c0_i32_236 : BitVec 32) : Fin 2 → Nat :=
  let arg0 : BitVec 32 := BitVec.ofNat 32 (i 0).val
  let c2_i32 : BitVec 32 := 2#32
  let v0 : BitVec 32 := Scalar.muli arg0 c2_i32
  let v532 : BitVec 32 := Scalar.addi v0 c0_i32_236
  let v533 : Index := Scalar.indexCast v532
  let c59 : Index := 59#32
  ![v533.toNat, 59]
def k0_off61 (i : grid0.Coords) (c0_i32_240 : BitVec 32) : Fin 2 → Nat :=
  let arg0 : BitVec 32 := BitVec.ofNat 32 (i 0).val
  let c2_i32 : BitVec 32 := 2#32
  let v0 : BitVec 32 := Scalar.muli arg0 c2_i32
  let v541 : BitVec 32 := Scalar.addi v0 c0_i32_240
  let v542 : Index := Scalar.indexCast v541
  let c60 : Index := 60#32
  ![v542.toNat, 60]
def k0_off62 (i : grid0.Coords) (c0_i32_244 : BitVec 32) : Fin 2 → Nat :=
  let arg0 : BitVec 32 := BitVec.ofNat 32 (i 0).val
  let c2_i32 : BitVec 32 := 2#32
  let v0 : BitVec 32 := Scalar.muli arg0 c2_i32
  let v550 : BitVec 32 := Scalar.addi v0 c0_i32_244
  let v551 : Index := Scalar.indexCast v550
  let c61 : Index := 61#32
  ![v551.toNat, 61]
def k0_off63 (i : grid0.Coords) (c0_i32_248 : BitVec 32) : Fin 2 → Nat :=
  let arg0 : BitVec 32 := BitVec.ofNat 32 (i 0).val
  let c2_i32 : BitVec 32 := 2#32
  let v0 : BitVec 32 := Scalar.muli arg0 c2_i32
  let v559 : BitVec 32 := Scalar.addi v0 c0_i32_248
  let v560 : Index := Scalar.indexCast v559
  let c62 : Index := 62#32
  ![v560.toNat, 62]
def k0_off64 (i : grid0.Coords) (c0_i32_252 : BitVec 32) : Fin 2 → Nat :=
  let arg0 : BitVec 32 := BitVec.ofNat 32 (i 0).val
  let c2_i32 : BitVec 32 := 2#32
  let v0 : BitVec 32 := Scalar.muli arg0 c2_i32
  let v568 : BitVec 32 := Scalar.addi v0 c0_i32_252
  let v569 : Index := Scalar.indexCast v568
  let c63 : Index := 63#32
  ![v569.toNat, 63]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DequantWoRefIdeal.lean ====
abbrev S1024x8192 : Shape := ⟨2, ![1024, 8192]⟩
abbrev S8x64 : Shape := ⟨2, ![8, 64]⟩
abbrev S8x128x64x128 : Shape := ⟨4, ![8, 128, 64, 128]⟩
abbrev S8x1x64x1 : Shape := ⟨4, ![8, 1, 64, 1]⟩

abbrev nBuf : Space → Nat
  | .hbm => 3
  | .vmem => 3
  | .smem => 0
  | _ => 0

abbrev bufTy : (tb : Table) → Fin (tcTables nBuf tb) → BufTy
  | .hbm, ⟨0, _⟩ => ⟨S1024x8192, .fp8e4m3⟩
  | .hbm, ⟨1, _⟩ => ⟨S8x64, .f32⟩
  | .hbm, ⟨2, _⟩ => ⟨S1024x8192, .bf16⟩
  | .local _ .vmem, ⟨0, _⟩ => ⟨S1024x8192, .fp8e4m3⟩
  | .local _ .vmem, ⟨1, _⟩ => ⟨S8x64, .f32⟩
  | .local _ .vmem, ⟨2, _⟩ => ⟨S1024x8192, .bf16⟩
  | _, _ => ⟨S1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AttnOut.lean ====
abbrev S3x8x128x4096 : Shape := ⟨4, ![3, 8, 128, 4096]⟩
abbrev S3x8x8x4096 : Shape := ⟨4, ![3, 8, 8, 4096]⟩
abbrev S3x8x4096 : Shape := ⟨3, ![3, 8, 4096]⟩
abbrev S3x4096x8x128 : Shape := ⟨4, ![3, 4096, 8, 128]⟩
abbrev S3x4096x8192 : Shape := ⟨3, ![3, 4096, 8192]⟩
abbrev S1024x8192 : Shape := ⟨2, ![1024, 8192]⟩
abbrev S12288x8x128 : Shape := ⟨3, ![12288, 8, 128]⟩
abbrev S12288x8192 : Shape := ⟨2, ![12288, 8192]⟩
abbrev S12288x1024 : Shape := ⟨2, ![12288, 1024]⟩
abbrev S12288x8 : Shape := ⟨2, ![12288, 8]⟩
abbrev S1x8x128x256 : Shape := ⟨4, ![1, 8, 128, 256]⟩
abbrev S1x8x8x256 : Shape := ⟨4, ![1, 8, 8, 256]⟩
abbrev S1x8x256 : Shape := ⟨3, ![1, 8, 256]⟩
abbrev S256x8x128 : Shape := ⟨3, ![256, 8, 128]⟩
abbrev S256x8192 : Shape := ⟨2, ![256, 8192]⟩
abbrev S256x1024 : Shape := ⟨2, ![256, 1024]⟩
abbrev S256x8 : Shape := ⟨2, ![256, 8]⟩
abbrev S17 : Shape := ⟨1, ![17]⟩
abbrev S2x4096x256 : Shape := ⟨3, ![2, 4096, 256]⟩
abbrev S8x8x256 : Shape := ⟨3, ![8, 8, 256]⟩
abbrev S8x256 : Shape := ⟨2, ![8, 256]⟩
abbrev S8x128x256 : Shape := ⟨3, ![8, 128, 256]⟩
abbrev S4096x128 : Shape := ⟨2, ![4096, 128]⟩
abbrev S128x4096 : Shape := ⟨2, ![128, 4096]⟩
abbrev S256x256 : Shape := ⟨2, ![256, 256]⟩
abbrev S1x1x8x256 : Shape := ⟨4, ![1, 1, 8, 256]⟩
abbrev S256 : Shape := ⟨1, ![256]⟩
abbrev S1x256 : Shape := ⟨2, ![1, 256]⟩
abbrev S120x256 : Shape := ⟨2, ![120, 256]⟩
abbrev S128x256 : Shape := ⟨2, ![128, 256]⟩
abbrev S256x128 : Shape := ⟨2, ![256, 128]⟩
abbrev S1x1x128x256 : Shape := ⟨4, ![1, 1, 128, 256]⟩
abbrev S256x1x128 : Shape := ⟨3, ![256, 1, 128]⟩
abbrev S256x1 : Shape := ⟨2, ![256, 1]⟩
abbrev S1024x1024 : Shape := ⟨2, ![1024, 1024]⟩

abbrev nBuf : Space → Nat
  | .hbm => 13
  | .vmem => 32
  | .smem => 1
  | _ => 0

abbrev bufTy : (tb : Table) → Fin (tcTables nBuf tb) → BufTy
  | .hbm, ⟨0, _⟩ => ⟨S3x8x128x4096, .f32⟩
  | .hbm, ⟨1, _⟩ => ⟨S3x8x8x4096, .f32⟩
  | .hbm, ⟨2, _⟩ => ⟨S3x8x4096, .f32⟩
  | .hbm, ⟨3, _⟩ => ⟨S3x4096x8x128, .f32⟩
  | .hbm, ⟨4, _⟩ => ⟨S3x8x4096, .f32⟩
  | .hbm, ⟨5, _⟩ => ⟨S3x4096x8192, .bf16⟩
  | .hbm, ⟨6, _⟩ => ⟨S1024x8192, .bf16⟩
  | .hbm, ⟨7, _⟩ => ⟨S12288x8x128, .f32⟩
  | .hbm, ⟨8, _⟩ => ⟨S12288x8192, .bf16⟩
  | .hbm, ⟨9, _⟩ => ⟨S12288x8192, .bf16⟩
  | .hbm, ⟨10, _⟩ => ⟨S3x8x4096, .f32⟩
  | .hbm, ⟨11, _⟩ => ⟨S12288x1024, .fp8e4m3⟩
  | .hbm, ⟨12, _⟩ => ⟨S12288x8, .f32⟩
  | .local _ .vmem, ⟨0, _⟩ => ⟨S1x8x128x256, .f32⟩
  | .local _ .vmem, ⟨1, _⟩ => ⟨S1x8x128x256, .f32⟩
  | .local _ .vmem, ⟨2, _⟩ => ⟨S1x8x8x256, .f32⟩
  | .local _ .vmem, ⟨3, _⟩ => ⟨S1x8x8x256, .f32⟩
  | .local _ .vmem, ⟨4, _⟩ => ⟨S1x8x256, .f32⟩
  | .local _ .vmem, ⟨5, _⟩ => ⟨S1x8x256, .f32⟩
  | .local _ .vmem, ⟨6, _⟩ => ⟨S256x8x128, .f32⟩
  | .local _ .vmem, ⟨7, _⟩ => ⟨S256x8x128, .f32⟩
  | .local _ .vmem, ⟨8, _⟩ => ⟨S1x8x256, .f32⟩
  | .local _ .vmem, ⟨9, _⟩ => ⟨S1x8x256, .f32⟩
  | .local _ .vmem, ⟨10, _⟩ => ⟨S256x8192, .bf16⟩
  | .local _ .vmem, ⟨11, _⟩ => ⟨S256x8192, .bf16⟩
  | .local _ .vmem, ⟨12, _⟩ => ⟨S1024x8192, .bf16⟩
  | .local _ .vmem, ⟨13, _⟩ => ⟨S256x8192, .bf16⟩
  | .local _ .vmem, ⟨14, _⟩ => ⟨S256x8192, .bf16⟩
  | .local _ .vmem, ⟨15, _⟩ => ⟨S1x8x256, .f32⟩
  | .local _ .vmem, ⟨16, _⟩ => ⟨S1x8x256, .f32⟩
  | .local _ .vmem, ⟨17, _⟩ => ⟨S256x1024, .fp8e4m3⟩
  | .local _ .vmem, ⟨18, _⟩ => ⟨S256x1024, .fp8e4m3⟩
  | .local _ .vmem, ⟨19, _⟩ => ⟨S256x8, .f32⟩
  | .local _ .vmem, ⟨20, _⟩ => ⟨S256x8, .f32⟩
  | .local _ .vmem, ⟨21, _⟩ => ⟨S2x4096x256, .f32⟩
  | .local _ .vmem, ⟨22, _⟩ => ⟨S8x8x256, .f32⟩
  | .local _ .vmem, ⟨23, _⟩ => ⟨S8x256, .f32⟩
  | .local _ .vmem, ⟨24, _⟩ => ⟨S8x8x256, .f32⟩
  | .local _ .vmem, ⟨25, _⟩ => ⟨S8x128x256, .f32⟩
  | .local _ .vmem, ⟨26, _⟩ => ⟨S4096x128, .f32⟩
  | .local _ .vmem, ⟨27, _⟩ => ⟨S4096x128, .f32⟩
  | .local _ .vmem, ⟨28, _⟩ => ⟨S4096x128, .i32⟩
  | .local _ .vmem, ⟨29, _⟩ => ⟨S128x4096, .bf16⟩
  | .local _ .vmem, ⟨30, _⟩ => ⟨S256x256, .f32⟩
  | .local _ .vmem, ⟨31, _⟩ => ⟨S256x1024, .bf16⟩
  | .local _ .smem, ⟨0, _⟩ => ⟨S17, .i32⟩
  | _, _ => ⟨S3x8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![3, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnOutRefIdeal.lean ====
abbrev S3x8x128x4096 : Shape := ⟨4, ![3, 8, 128, 4096]⟩
abbrev S3x8x8x4096 : Shape := ⟨4, ![3, 8, 8, 4096]⟩
abbrev S3x8x4096 : Shape := ⟨3, ![3, 8, 4096]⟩
abbrev S3x4096x8x128 : Shape := ⟨4, ![3, 4096, 8, 128]⟩
abbrev S3x4096x8192 : Shape := ⟨3, ![3, 4096, 8192]⟩
abbrev S1024x8192 : Shape := ⟨2, ![1024, 8192]⟩
abbrev S12288x8192 : Shape := ⟨2, ![12288, 8192]⟩
abbrev S12288x1024 : Shape := ⟨2, ![12288, 1024]⟩
abbrev S12288x8 : Shape := ⟨2, ![12288, 8]⟩
abbrev S3x4096x8 : Shape := ⟨3, ![3, 4096, 8]⟩
abbrev S3x4096x8x1 : Shape := ⟨4, ![3, 4096, 8, 1]⟩
abbrev S3x4096x8x256 : Shape := ⟨4, ![3, 4096, 8, 256]⟩

abbrev nBuf : Space → Nat
  | .hbm => 11
  | .vmem => 11
  | .smem => 0
  | _ => 0

abbrev bufTy : (tb : Table) → Fin (tcTables nBuf tb) → BufTy
  | .hbm, ⟨0, _⟩ => ⟨S3x8x128x4096, .f32⟩
  | .hbm, ⟨1, _⟩ => ⟨S3x8x8x4096, .f32⟩
  | .hbm, ⟨2, _⟩ => ⟨S3x8x4096, .f32⟩
  | .hbm, ⟨3, _⟩ => ⟨S3x4096x8x128, .f32⟩
  | .hbm, ⟨4, _⟩ => ⟨S3x8x4096, .f32⟩
  | .hbm, ⟨5, _⟩ => ⟨S3x4096x8192, .bf16⟩
  | .hbm, ⟨6, _⟩ => ⟨S1024x8192, .bf16⟩
  | .hbm, ⟨7, _⟩ => ⟨S12288x8192, .bf16⟩
  | .hbm, ⟨8, _⟩ => ⟨S3x8x4096, .f32⟩
  | .hbm, ⟨9, _⟩ => ⟨S12288x1024, .fp8e4m3⟩
  | .hbm, ⟨10, _⟩ => ⟨S12288x8, .f32⟩
  | .local _ .vmem, ⟨0, _⟩ => ⟨S3x8x128x4096, .f32⟩
  | .local _ .vmem, ⟨1, _⟩ => ⟨S3x8x8x4096, .f32⟩
  | .local _ .vmem, ⟨2, _⟩ => ⟨S3x8x4096, .f32⟩
  | .local _ .vmem, ⟨3, _⟩ => ⟨S3x4096x8x128, .f32⟩
  | .local _ .vmem, ⟨4, _⟩ => ⟨S3x8x4096, .f32⟩
  | .local _ .vmem, ⟨5, _⟩ => ⟨S3x4096x8192, .bf16⟩
  | .local _ .vmem, ⟨6, _⟩ => ⟨S1024x8192, .bf16⟩
  | .local _ .vmem, ⟨7, _⟩ => ⟨S12288x8192, .bf16⟩
  | .local _ .vmem, ⟨8, _⟩ => ⟨S3x8x4096, .f32⟩
  | .local _ .vmem, ⟨9, _⟩ => ⟨S12288x1024, .fp8e4m3⟩
  | .local _ .vmem, ⟨10, _⟩ => ⟨S12288x8, .f32⟩
  | _, _ => ⟨S3x8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x8x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Row.lean ====
/-
  The mathematics of one query row of one head, on plain functions of the column: RMS normalisation with the head's
  weight, the rotary embedding, and the quantisation of the rotated row with one scale.
-/
module

public import Idealize.ShloMosaic.Lib.Pointwise

@[expose] public section

noncomputable section

open Idealize.ShloMosaic

namespace Cert.Row

/-- The normalised entry: the query over the root of (mean square + epsilon), times the head's weight. -/
def nrm (q w : Fin 128 → EReal) (k : Fin 128) : EReal :=
  Ideal.div (q k) (Ideal.sqrt (Ideal.div (∑ x, q x * q x) (Ideal.ofBits .f32 1124073472#32) + Ideal.ofBits .f32 897988541#32)) * w k

/-- The rotary embedding: column `k < 64` pairs with column `64 + k`. -/
def rot (c s : Fin 64 → EReal) (q w : Fin 128 → EReal) (k : Fin 128) : EReal :=
  if h : k.val < 64 then
    nrm q w k * c ⟨k.val, h⟩ - nrm q w ⟨64 + k.val, by omega⟩ * s ⟨k.val, h⟩
  else
    nrm q w k * c ⟨k.val - 64, by omega⟩ + nrm q w ⟨k.val - 64, by omega⟩ * s ⟨k.val - 64, by omega⟩

/-- The largest magnitude of the row. -/
def amax (c s : Fin 64 → EReal) (q w : Fin 128 → EReal) : EReal :=
  Finset.fold max (Ideal.ofBits .f32 4286578688#32) (fun x => FloatOps.absf (F := Ideal) (φ := .f32) (rot c s q w x)) Finset.univ

/-- The row's scale: one for a row of zeros, the largest magnitude over 448 otherwise. -/
def scl (c s : Fin 64 → EReal) (q w : Fin 128 → EReal) : EReal :=
  if amax c s q w = 0 then 1 else Ideal.div (amax c s q w) (Ideal.ofBits .f32 1138753536#32)

/-- The row's code: the entry over the scale, clipped to ±448. -/
def code (c s : Fin 64 → EReal) (q w : Fin 128 → EReal) (k : Fin 128) : EReal :=
  min (Ideal.ofBits .f32 1138753536#32) (max (Ideal.ofBits .f32 3286237184#32) (Ideal.div (rot c s q w k) (scl c s q w)))

end Cert.Row

end
-- ==== Proof.Head.lean ====
/-
  The kernel's eight heads: each head's rotated row, scale and codes are the row functions of `Proof/Row.lean`, and the
  two scale blocks hold at column (row) `j` the scale of head `j`.
-/
module

public import proofs.«01_k».proof.Proof.Row
public import proofs.«01_k».proof.Proof.Gen.KernelIdeal.Skeleton
public import Idealize.ShloMosaic.Lib.Pointwise

@[expose] public section

set_option maxRecDepth 16384

noncomputable section

open Idealize.ShloMosaic Idealize.ShloMosaic.TcCoe

namespace Cert.KernelIdeal.Head

open Cert.KernelIdeal Cert.KernelIdeal.Gen

variable (c s : Vec Ideal S256x64 .f32) (y : Vec Ideal S256x128 .f32) (w : Vec Ideal S1x128 .f32)

/-- A head's rotated block (the first head's words). -/
abbrev rotB : FVec Ideal S256x128 .f32 := k0_pay10 c c s s y w

/-- A head's scales, one column. -/
abbrev sclB : FVec Ideal S256x1 .f32 := k0_pay11 c c s s y w

/-- A head's codes. -/
abbrev codeB : FVec Ideal S256x128 .fp8e4m3 := k0_pay13 (k0_pay10 c c s s y w) (k0_pay12 c c s s y w)

theorem rot_at (r : Fin 256) (k : Fin 128) :
    rotB c s y w (ix2 r k)
      = Row.rot (fun l => c (ix2 r l)) (fun l => s (ix2 r l)) (fun x => y (ix2 r x)) (fun x => w (ix2 0 x)) k := by
  unfold rotB Row.rot Row.nrm
  pointwise [k0_pay10, k0_pay7, k0_pay8]
  by_cases h : k.val < 64
  · have e : (k.val + 128 - 64) % 128 = 64 + k.val := by omega
    simp only [h, dif_pos, e, sub_eq_add_neg, zero_add, mul_neg]
    try rfl
  · have e : (k.val + 128 - 64) % 128 = k.val - 64 := by omega
    simp only [h, dif_neg, not_false_eq_true, e]
    try rfl

theorem scl_at (r : Fin 256) (j : Fin 1) :
    sclB c s y w (ix2 r j)
      = Row.scl (fun l => c (ix2 r l)) (fun l => s (ix2 r l)) (fun x => y (ix2 r x)) (fun x => w (ix2 0 x)) := by
  unfold sclB Row.scl Row.amax k0_pay11
  simp only [← rot_at, rotB]
  generalize k0_pay10 c c s s y w = R
  pointwise

theorem code_at (r : Fin 256) (k : Fin 128) :
    (codeB c s y w (ix2 r k) : EReal)
      = Row.code (fun l => c (ix2 r l)) (fun l => s (ix2 r l)) (fun x => y (ix2 r x)) (fun x => w (ix2 0 x)) k := by
  unfold codeB Row.code k0_pay13 k0_pay12
  rw [← scl_at c s y w r 0, ← rot_at]
  unfold rotB sclB
  generalize k0_pay10 c c s s y w = R
  generalize k0_pay11 c c s s y w = T
  pointwise

/-! ## The other heads' words, of the points with a matmul and of the last point, are the first head's -/

theorem codeB1 : k0_pay18 (k0_pay17 (k0_pay7 c c) (k0_pay8 s s) y w) (FloatOps.ofBits .f32 3286237184#32) = codeB c s y w := rfl
theorem sclB1 : k0_pay16 (k0_pay7 c c) (k0_pay8 s s) y w = sclB c s y w := rfl
theorem codeB2 : k0_pay24 (k0_pay22 (k0_pay7 c c) (k0_pay8 s s) y w) (FloatOps.ofBits .f32 1138753536#32) k0_pay23 = codeB c s y w := rfl
theorem sclB2 : k0_pay21 (k0_pay7 c c) (k0_pay8 s s) y w = sclB c s y w := rfl
theorem codeB3 : k0_pay30 (k0_pay28 (k0_pay7 c c) (k0_pay8 s s) y w) k0_pay29 = codeB c s y w := rfl
theorem sclB3 : k0_pay27 (k0_pay7 c c) (k0_pay8 s s) y w = sclB c s y w := rfl
theorem codeB4 : k0_pay34 (k0_pay7 c c) (k0_pay8 s s) y w = codeB c s y w := rfl
theorem sclB4 : k0_pay33 (k0_pay7 c c) (k0_pay8 s s) y w = sclB c s y w := rfl
theorem codeB5 : k0_pay38 (k0_pay7 c c) (k0_pay8 s s) y w = codeB c s y w := rfl
theorem sclB5 : k0_pay37 (k0_pay7 c c) (k0_pay8 s s) y w = sclB c s y w := rfl
theorem codeB6 : k0_pay42 (k0_pay7 c c) (k0_pay8 s s) y w = codeB c s y w := rfl
theorem sclB6 : k0_pay41 (k0_pay7 c c) (k0_pay8 s s) y w = sclB c s y w := rfl
theorem codeB7 : k0_pay46 (k0_pay7 c c) (k0_pay8 s s) y w = codeB c s y w := rfl
theorem sclB7 : k0_pay45 (k0_pay7 c c) (k0_pay8 s s) y w = sclB c s y w := rfl
theorem codeC0 : k0_pay138 (k0_pay135 c c s s y w) (k0_pay137 c c s s y w) = codeB c s y w := rfl
theorem sclC0 : k0_pay136 c c s s y w = sclB c s y w := rfl
theorem codeC1 : k0_pay143 (k0_pay142 (k0_pay132 c c) (k0_pay133 s s) y w) (FloatOps.ofBits .f32 3286237184#32) = codeB c s y w := rfl
theorem sclC1 : k0_pay141 (k0_pay132 c c) (k0_pay133 s s) y w = sclB c s y w := rfl
theorem codeC2 : k0_pay149 (k0_pay147 (k0_pay132 c c) (k0_pay133 s s) y w) (FloatOps.ofBits .f32 1138753536#32) k0_pay148 = codeB c s y w := rfl
theorem sclC2 : k0_pay146 (k0_pay132 c c) (k0_pay133 s s) y w = sclB c s y w := rfl
theorem codeC3 : k0_pay155 (k0_pay153 (k0_pay132 c c) (k0_pay133 s s) y w) k0_pay154 = codeB c s y w := rfl
theorem sclC3 : k0_pay152 (k0_pay132 c c) (k0_pay133 s s) y w = sclB c s y w := rfl
theorem codeC4 : k0_pay159 (k0_pay132 c c) (k0_pay133 s s) y w = codeB c s y w := rfl
theorem sclC4 : k0_pay158 (k0_pay132 c c) (k0_pay133 s s) y w = sclB c s y w := rfl
theorem codeC5 : k0_pay163 (k0_pay132 c c) (k0_pay133 s s) y w = codeB c s y w := rfl
theorem sclC5 : k0_pay162 (k0_pay132 c c) (k0_pay133 s s) y w = sclB c s y w := rfl
theorem codeC6 : k0_pay167 (k0_pay132 c c) (k0_pay133 s s) y w = codeB c s y w := rfl
theorem sclC6 : k0_pay166 (k0_pay132 c c) (k0_pay133 s s) y w = sclB c s y w := rfl
theorem codeC7 : k0_pay171 (k0_pay132 c c) (k0_pay133 s s) y w = codeB c s y w := rfl
theorem sclC7 : k0_pay170 (k0_pay132 c c) (k0_pay133 s s) y w = sclB c s y w := rfl

end Cert.KernelIdeal.Head

end
-- ==== Proof.Block.lean ====
/-
  The kernel's blocks as functions of the input blocks: the carried accumulator after a point, and the three output
  blocks a point writes from the accumulator the point before left.
-/
module

public import proofs.«01_k».proof.Proof.Head
public import proofs.«01_k».proof.Proof.Gen.KernelIdeal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.KernelIdeal.Block

open Cert.KernelIdeal Cert.KernelIdeal.Gen Cert.KernelIdeal.Head

/-- The dequantised block: each code times the scale of its run of 128 columns. -/
def deqBlk (b0 : Vec Ideal S256x8192 .fp8e4m3) (b1 : Vec Ideal S256x64 .f32) (r : Fin 256) (k : Fin 8192) : EReal :=
  (b0 (ix2 r k) : EReal) * (b1 (ix2 r ⟨k.val / 128, by omega⟩) : EReal)

/-- The accumulator: the dequantised block times the weights. -/
def accBlk (b0 : Vec Ideal S256x8192 .fp8e4m3) (b1 : Vec Ideal S256x64 .f32) (b2 : Vec Ideal S8192x1024 .bf16) :
    Vec Ideal S256x1024 .f32 :=
  fun y => (∑ k : Fin 8192, deqBlk b0 b1 (y 0) k * (b2 (ix2 k (y 1)) : EReal) : EReal)

/-- The scale of row `r`, head `j`, from an accumulator block. -/
def sclAt (c s : Vec Ideal S256x64 .f32) (X : Vec Ideal S256x1024 .f32) (w8 : Vec Ideal S8x128 .f32) (r : Fin 256) (j : Fin 8) : EReal :=
  Row.scl (fun l => c (ix2 r l)) (fun l => s (ix2 r l)) (fun x => X (ix2 r ⟨j.val * 128 + x.val, by omega⟩)) (fun x => w8 (ix2 j x))

/-- The code of row `r`, head `j`, column `k` of the head, from an accumulator block. -/
def codeAt (c s : Vec Ideal S256x64 .f32) (X : Vec Ideal S256x1024 .f32) (w8 : Vec Ideal S8x128 .f32) (r : Fin 256) (j : Fin 8) (k : Fin 128) : EReal :=
  Row.code (fun l => c (ix2 r l)) (fun l => s (ix2 r l)) (fun x => X (ix2 r ⟨j.val * 128 + x.val, by omega⟩)) (fun x => w8 (ix2 j x)) k

/-! ## The dequantised block, tile by tile -/

theorem deq_tile (b0 : Vec Ideal S256x8192 .fp8e4m3) (b1 : Vec Ideal S256x64 .f32) (y : S256x8192.Idx) (r : Fin 256) (k : Fin 8192) (q : Fin 64)
    (h0 : (y 0).val = r.val) (h1 : (y 1).val = k.val) (hq : k.val / 128 = q.val) :
    (b0 (ix2 r k) : EReal) * (b1 (ix2 r q) : EReal) = deqBlk b0 b1 (y 0) (y 1) := by
  obtain rfl : y 0 = r := Fin.ext h0
  obtain rfl : y 1 = k := Fin.ext h1
  unfold deqBlk
  congr 3
  exact Fin.ext hq.symm

theorem acc_of (b0 : Vec Ideal S256x8192 .fp8e4m3) (b1 : Vec Ideal S256x64 .f32) (b2 : Vec Ideal S8192x1024 .bf16)
    (L : List (View.Piece (Elt Ideal) S256x8192 .bf16)) (v : View sig .tc .vmem S256x8192 .bf16)
    (hL : ∀ y, (View.canon L y : EReal) = deqBlk b0 b1 (y 0) (y 1)) (inb) :
    k0_pay3 (v.readCov L (Rect.unit (s := S256x8192) ![0, 0] ![256, 8192] inb).toLoadRect) b2 = accBlk b0 b1 b2 := by
  rw [View.readCov_eq_canon']
  have e : (fun j => View.canon L ((Rect.unit (s := S256x8192) ![0, 0] ![256, 8192] inb).toLoadRect.idx j))
      = fun y : S256x8192.Idx => (deqBlk b0 b1 (y 0) (y 1) : EReal) := by
    funext j
    rw [hL]
    congr 1 <;> exact Fin.ext (by show 0 + 1 * _ = _; omega)
  rw [e]
  funext y
  idx_vars y
  unfold accBlk
  pointwise [k0_pay3]

/-- The same at a tile that begins at column `o = 128 q`. -/
theorem deq_close (b0 : Vec Ideal S256x8192 .fp8e4m3) (b1 : Vec Ideal S256x64 .f32) (z : S256x8192.Idx) (r : Fin 256) (k : Fin 128) (o : Nat) (q : Fin 64)
    (hk : o + k.val < 8192) (h0 : (z 0).val = r.val) (h1 : (z 1).val = o + k.val) (hq : o = 128 * q.val) :
    (b0 (ix2 r ⟨o + k.val, hk⟩) : EReal) * (b1 (ix2 r q) : EReal) = deqBlk b0 b1 (z 0) (z 1) :=
  deq_tile b0 b1 z r ⟨o + k.val, hk⟩ q h0 h1 (by show (o + k.val) / 128 = q.val; omega)

variable (m : (ℓ : Loc nD τ sig) → Buf (Elt Ideal) ℓ)

theorem acc_B (c : Dev nD) (t : Fin cfg0.N) (h0 : ¬t.val % 49 = 0) (h1 : t.val < 48) (h2 : ¬t.val % 49 = 48) :
    (outsAt0 m c t.val t.isLt).2.2.2 = accBlk (iblk m c 0 t) (iblk m c 1 t) (iblk m c 2 t) := by
  rw [outsAt0_B m c t h0 h1 h2]
  dsimp only
  frame_open
  simp (disch := decide) only [↓ View.readCov_skip, ↓ View.readCov_cons_toLoadRect, ↓ View.readCov_fill]
  frame_out
  refine acc_of (iblk m c 0 t) (iblk m c 1 t) (iblk m c 2 t) _ _ (fun z => ?_) _
  generalize hb0 : (iblk m c 0 t : Vec Ideal S256x8192 .fp8e4m3) = b0
  generalize hb1 : (iblk m c 1 t : Vec Ideal S256x64 .f32) = b1
  change Vec Ideal S256x8192 .fp8e4m3 at b0
  change Vec Ideal S256x64 .f32 at b1
  clear hb0 hb1 h0 h1 h2
  canon_tiles x h
  all_goals
    (idx_vars x
     pointwise [k0_pay2, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
     first
       | exact deq_close b0 b1 z _ _ _ _ _ h0 h1 rfl
       | exact deq_tile b0 b1 z _ _ _ h0 h1 (Nat.div_eq_of_lt x1.isLt))

theorem acc_A (c : Dev nD) (t : Fin cfg0.N) (h0 : t.val % 49 = 0) (h1 : t.val < 48) (h2 : ¬t.val % 49 = 48) :
    (outsAt0 m c t.val t.isLt).2.2.2 = accBlk (iblk m c 0 t) (iblk m c 1 t) (iblk m c 2 t) := by
  rw [outsAt0_A m c t h0 h1 h2]
  dsimp only
  frame_open
  simp (disch := decide) only [↓ View.readCov_skip, ↓ View.readCov_cons_toLoadRect, ↓ View.readCov_fill]
  frame_out
  refine acc_of (iblk m c 0 t) (iblk m c 1 t) (iblk m c 2 t) _ _ (fun z => ?_) _
  generalize hb0 : (iblk m c 0 t : Vec Ideal S256x8192 .fp8e4m3) = b0
  generalize hb1 : (iblk m c 1 t : Vec Ideal S256x64 .f32) = b1
  change Vec Ideal S256x8192 .fp8e4m3 at b0
  change Vec Ideal S256x64 .f32 at b1
  clear hb0 hb1 h0 h1 h2
  canon_tiles x h
  all_goals
    (idx_vars x
     pointwise [k0_pay2, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
     first
       | exact deq_close b0 b1 z _ _ _ _ _ h0 h1 rfl
       | exact deq_tile b0 b1 z _ _ _ h0 h1 (Nat.div_eq_of_lt x1.isLt))

/-! ## The output blocks -/

/-- A head's tile of codes, from the accumulator's columns and the head's weight row. -/
theorem code_tile (c s : Vec Ideal S256x64 .f32) (X : Vec Ideal S256x1024 .f32) (w8 : Vec Ideal S8x128 .f32)
    (yb : Vec Ideal S256x128 .f32) (wb : Vec Ideal S1x128 .f32) (j : Fin 8) (z : S256x1024.Idx) (r : Fin 256) (k : Fin 128)
    (hy : ∀ x : Fin 128, yb (ix2 r x) = X (ix2 r ⟨j.val * 128 + x.val, by omega⟩)) (hw : ∀ x : Fin 128, wb (ix2 0 x) = w8 (ix2 j x))
    (h0 : (z 0).val = r.val) (h1 : (z 1).val = j.val * 128 + k.val) :
    (codeB c s yb wb (ix2 r k) : EReal)
      = codeAt c s X w8 (z 0) ⟨(z 1).val / 128, Nat.div_lt_of_lt_mul (z 1).isLt⟩ ⟨(z 1).val % 128, Nat.mod_lt _ (by decide)⟩ := by
  rw [code_at]
  obtain rfl : z 0 = r := Fin.ext h0
  have hj : (⟨(z 1).val / 128, Nat.div_lt_of_lt_mul (z 1).isLt⟩ : Fin 8) = j := Fin.ext (by show (z 1).val / 128 = j.val; omega)
  have hk : (⟨(z 1).val % 128, Nat.mod_lt _ (by decide)⟩ : Fin 128) = k := Fin.ext (by show (z 1).val % 128 = k.val; omega)
  rw [hj, hk]
  unfold codeAt
  simp only [hy, hw]

/-- A head's scales, likewise. -/
theorem scl_tile (c s : Vec Ideal S256x64 .f32) (X : Vec Ideal S256x1024 .f32) (w8 : Vec Ideal S8x128 .f32)
    (yb : Vec Ideal S256x128 .f32) (wb : Vec Ideal S1x128 .f32) (i j : Fin 8) (r : Fin 256) (q : Fin 1) (hj : j.val = i.val)
    (hy : ∀ x : Fin 128, yb (ix2 r x) = X (ix2 r ⟨i.val * 128 + x.val, by omega⟩)) (hw : ∀ x : Fin 128, wb (ix2 0 x) = w8 (ix2 i x)) :
    (sclB c s yb wb (ix2 r q) : EReal) = sclAt c s X w8 r j := by
  obtain rfl : j = i := Fin.ext hj
  rw [scl_at]
  unfold sclAt
  simp only [hy, hw]

/-- Selecting by the lane number keeps the head whose number it is. -/
theorem sel_lane (a b : Nat) (u v : EReal) (ha : a < 8) (hb : b < 8) :
    (Scalar.select (IntOp.cmpi .eq (BitVec.ofNat 32 a) (BitVec.ofNat 32 b)) u v : EReal) = if a = b then u else v := by
  interval_cases a <;> interval_cases b <;> rfl

/-- The first head's columns begin at zero. -/
theorem col0 (X : Vec Ideal S256x1024 .f32) (r : Fin 256) (x : Fin 128) :
    X (ix2 r ⟨x.val, by omega⟩) = X (ix2 r ⟨(0 : Fin 8).val * 128 + x.val, by omega⟩) := by
  congr 2
  exact Fin.ext (by show x.val = 0 * 128 + x.val; omega)

/-! ### The points with a matmul -/

theorem codes_B (c : Dev nD) (t : Fin cfg0.N) (h0 : ¬t.val % 49 = 0) (h1 : t.val < 48) (h2 : ¬t.val % 49 = 48) (z : S256x1024.Idx) :
    ((outsAt0 m c t.val t.isLt).1 z : EReal)
      = codeAt (iblk m c 4 t) (iblk m c 5 t) (outsAt0 m c (t.val - 1) (Nat.lt_of_le_of_lt (Nat.sub_le _ _) t.isLt)).2.2.2 (iblk m c 3 t) (z 0)
          ⟨(z 1).val / 128, Nat.div_lt_of_lt_mul (z 1).isLt⟩ ⟨(z 1).val % 128, Nat.mod_lt _ (by decide)⟩ := by
  rw [outsAt0_B m c t h0 h1 h2]
  dsimp only
  frame_out
  simp only [read_unread_whole]
  generalize (outsAt0 m c (t.val - 1) _).2.2.2 = X
  generalize hb3 : (iblk m c 3 t : Vec Ideal S8x128 .f32) = b3
  generalize hb4 : (iblk m c 4 t : Vec Ideal S256x64 .f32) = b4
  generalize hb5 : (iblk m c 5 t : Vec Ideal S256x64 .f32) = b5
  change Vec Ideal S8x128 .f32 at b3
  change Vec Ideal S256x64 .f32 at b4
  change Vec Ideal S256x64 .f32 at b5
  clear hb3 hb4 hb5 h0 h1 h2
  simp only [codeB1, codeB2, codeB3, codeB4, codeB5, codeB6, codeB7]
  canon_tiles x h
  all_goals
    (idx_vars x
     first
       | exact code_tile b4 b5 X b3 _ _ 7 z x0 x1 (fun x => by pointwise) (fun x => by pointwise) h0 h1
       | exact code_tile b4 b5 X b3 _ _ 6 z x0 x1 (fun x => by pointwise) (fun x => by pointwise) h0 h1
       | exact code_tile b4 b5 X b3 _ _ 5 z x0 x1 (fun x => by pointwise) (fun x => by pointwise) h0 h1
       | exact code_tile b4 b5 X b3 _ _ 4 z x0 x1 (fun x => by pointwise) (fun x => by pointwise) h0 h1
       | exact code_tile b4 b5 X b3 _ _ 3 z x0 x1 (fun x => by pointwise) (fun x => by pointwise) h0 h1
       | exact code_tile b4 b5 X b3 _ _ 2 z x0 x1 (fun x => by pointwise) (fun x => by pointwise) h0 h1
       | exact code_tile b4 b5 X b3 _ _ 1 z x0 x1 (fun x => by pointwise) (fun x => by pointwise) h0 h1
       | exact code_tile b4 b5 X b3 _ _ 0 z x0 x1 (fun x => Eq.trans (by pointwise) (col0 X x0 x)) (fun x => by pointwise) h0 (h1.trans (by show x1.val = 0 * 128 + x1.val; omega)))

theorem scales_B (c : Dev nD) (t : Fin cfg0.N) (h0 : ¬t.val % 49 = 0) (h1 : t.val < 48) (h2 : ¬t.val % 49 = 48) (r : Fin 256) (j : Fin 8) :
    ((outsAt0 m c t.val t.isLt).2.1 (ix2 r j) : EReal) = sclAt (iblk m c 4 t) (iblk m c 5 t) (outsAt0 m c (t.val - 1) (Nat.lt_of_le_of_lt (Nat.sub_le _ _) t.isLt)).2.2.2 (iblk m c 3 t) r j := by
  rw [outsAt0_B m c t h0 h1 h2]
  dsimp only
  frame_out
  simp only [read_unread_whole]
  generalize (outsAt0 m c (t.val - 1) _).2.2.2 = X
  generalize hb3 : (iblk m c 3 t : Vec Ideal S8x128 .f32) = b3
  generalize hb4 : (iblk m c 4 t : Vec Ideal S256x64 .f32) = b4
  generalize hb5 : (iblk m c 5 t : Vec Ideal S256x64 .f32) = b5
  change Vec Ideal S8x128 .f32 at b3
  change Vec Ideal S256x64 .f32 at b4
  change Vec Ideal S256x64 .f32 at b5
  clear hb3 hb4 hb5 h0 h1 h2
  simp only [sclB1, sclB2, sclB3, sclB4, sclB5, sclB6, sclB7]
  fin_vals j with hj
  all_goals
    (pointwise [k0_pay49, k0_pay50, k0_pay48, k0_pay43, k0_pay39, k0_pay35, k0_pay31, k0_pay25, k0_pay19, k0_pay14, k0_pay9, k0_pay47]
     simp (disch := omega) only [sel_lane, hj, Nat.reduceEqDiff, ↓reduceIte]
     first
       | exact scl_tile b4 b5 X b3 _ _ 7 j r 0 hj (fun x => by pointwise) (fun x => by pointwise)
       | exact scl_tile b4 b5 X b3 _ _ 6 j r 0 hj (fun x => by pointwise) (fun x => by pointwise)
       | exact scl_tile b4 b5 X b3 _ _ 5 j r 0 hj (fun x => by pointwise) (fun x => by pointwise)
       | exact scl_tile b4 b5 X b3 _ _ 4 j r 0 hj (fun x => by pointwise) (fun x => by pointwise)
       | exact scl_tile b4 b5 X b3 _ _ 3 j r 0 hj (fun x => by pointwise) (fun x => by pointwise)
       | exact scl_tile b4 b5 X b3 _ _ 2 j r 0 hj (fun x => by pointwise) (fun x => by pointwise)
       | exact scl_tile b4 b5 X b3 _ _ 1 j r 0 hj (fun x => by pointwise) (fun x => by pointwise)
       | exact scl_tile b4 b5 X b3 _ _ 0 j r 0 hj (fun x => Eq.trans (by pointwise) (col0 X r x)) (fun x => by pointwise)
       | trace_state)

theorem scalesT_B (c : Dev nD) (t : Fin cfg0.N) (h0 : ¬t.val % 49 = 0) (h1 : t.val < 48) (h2 : ¬t.val % 49 = 48) (q : Fin 1) (j : Fin 8) (r : Fin 256) :
    ((outsAt0 m c t.val t.isLt).2.2.1 (ix3 q j r) : EReal) = sclAt (iblk m c 4 t) (iblk m c 5 t) (outsAt0 m c (t.val - 1) (Nat.lt_of_le_of_lt (Nat.sub_le _ _) t.isLt)).2.2.2 (iblk m c 3 t) r j := by
  rw [outsAt0_B m c t h0 h1 h2]
  dsimp only
  frame_out
  simp only [read_unread_whole]
  generalize (outsAt0 m c (t.val - 1) _).2.2.2 = X
  generalize hb3 : (iblk m c 3 t : Vec Ideal S8x128 .f32) = b3
  generalize hb4 : (iblk m c 4 t : Vec Ideal S256x64 .f32) = b4
  generalize hb5 : (iblk m c 5 t : Vec Ideal S256x64 .f32) = b5
  change Vec Ideal S8x128 .f32 at b3
  change Vec Ideal S256x64 .f32 at b4
  change Vec Ideal S256x64 .f32 at b5
  clear hb3 hb4 hb5 h0 h1 h2
  simp only [sclB1, sclB2, sclB3, sclB4, sclB5, sclB6, sclB7]
  fin_vals j with hj
  all_goals
    (pointwise [k0_pay49, k0_pay50, k0_pay48, k0_pay43, k0_pay39, k0_pay35, k0_pay31, k0_pay25, k0_pay19, k0_pay14, k0_pay9, k0_pay47]
     simp (disch := omega) only [sel_lane, hj, Nat.reduceEqDiff, ↓reduceIte]
     first
       | exact scl_tile b4 b5 X b3 _ _ 7 j r 0 hj (fun x => by pointwise) (fun x => by pointwise)
       | exact scl_tile b4 b5 X b3 _ _ 6 j r 0 hj (fun x => by pointwise) (fun x => by pointwise)
       | exact scl_tile b4 b5 X b3 _ _ 5 j r 0 hj (fun x => by pointwise) (fun x => by pointwise)
       | exact scl_tile b4 b5 X b3 _ _ 4 j r 0 hj (fun x => by pointwise) (fun x => by pointwise)
       | exact scl_tile b4 b5 X b3 _ _ 3 j r 0 hj (fun x => by pointwise) (fun x => by pointwise)
       | exact scl_tile b4 b5 X b3 _ _ 2 j r 0 hj (fun x => by pointwise) (fun x => by pointwise)
       | exact scl_tile b4 b5 X b3 _ _ 1 j r 0 hj (fun x => by pointwise) (fun x => by pointwise)
       | exact scl_tile b4 b5 X b3 _ _ 0 j r 0 hj (fun x => Eq.trans (by pointwise) (col0 X r x)) (fun x => by pointwise)
       | trace_state)

/-! ### The last point -/

theorem codes_C (c : Dev nD) (t : Fin cfg0.N) (h0 : ¬t.val % 49 = 0) (h1 : ¬t.val < 48) (h2 : t.val % 49 = 48) (z : S256x1024.Idx) :
    ((outsAt0 m c t.val t.isLt).1 z : EReal)
      = codeAt (iblk m c 4 t) (iblk m c 5 t) (outsAt0 m c (t.val - 1) (Nat.lt_of_le_of_lt (Nat.sub_le _ _) t.isLt)).2.2.2 (iblk m c 3 t) (z 0)
          ⟨(z 1).val / 128, Nat.div_lt_of_lt_mul (z 1).isLt⟩ ⟨(z 1).val % 128, Nat.mod_lt _ (by decide)⟩ := by
  rw [outsAt0_C m c t h0 h1 h2]
  dsimp only
  frame_out
  simp only [read_unread_whole]
  generalize (outsAt0 m c (t.val - 1) _).2.2.2 = X
  generalize hb3 : (iblk m c 3 t : Vec Ideal S8x128 .f32) = b3
  generalize hb4 : (iblk m c 4 t : Vec Ideal S256x64 .f32) = b4
  generalize hb5 : (iblk m c 5 t : Vec Ideal S256x64 .f32) = b5
  change Vec Ideal S8x128 .f32 at b3
  change Vec Ideal S256x64 .f32 at b4
  change Vec Ideal S256x64 .f32 at b5
  clear hb3 hb4 hb5 h0 h1 h2
  simp only [codeC0, codeC1, codeC2, codeC3, codeC4, codeC5, codeC6, codeC7]
  canon_tiles x h
  all_goals
    (idx_vars x
     first
       | exact code_tile b4 b5 X b3 _ _ 7 z x0 x1 (fun x => by pointwise) (fun x => by pointwise) h0 h1
       | exact code_tile b4 b5 X b3 _ _ 6 z x0 x1 (fun x => by pointwise) (fun x => by pointwise) h0 h1
       | exact code_tile b4 b5 X b3 _ _ 5 z x0 x1 (fun x => by pointwise) (fun x => by pointwise) h0 h1
       | exact code_tile b4 b5 X b3 _ _ 4 z x0 x1 (fun x => by pointwise) (fun x => by pointwise) h0 h1
       | exact code_tile b4 b5 X b3 _ _ 3 z x0 x1 (fun x => by pointwise) (fun x => by pointwise) h0 h1
       | exact code_tile b4 b5 X b3 _ _ 2 z x0 x1 (fun x => by pointwise) (fun x => by pointwise) h0 h1
       | exact code_tile b4 b5 X b3 _ _ 1 z x0 x1 (fun x => by pointwise) (fun x => by pointwise) h0 h1
       | exact code_tile b4 b5 X b3 _ _ 0 z x0 x1 (fun x => Eq.trans (by pointwise) (col0 X x0 x)) (fun x => by pointwise) h0 (h1.trans (by show x1.val = 0 * 128 + x1.val; omega)))

theorem scales_C (c : Dev nD) (t : Fin cfg0.N) (h0 : ¬t.val % 49 = 0) (h1 : ¬t.val < 48) (h2 : t.val % 49 = 48) (r : Fin 256) (j : Fin 8) :
    ((outsAt0 m c t.val t.isLt).2.1 (ix2 r j) : EReal) = sclAt (iblk m c 4 t) (iblk m c 5 t) (outsAt0 m c (t.val - 1) (Nat.lt_of_le_of_lt (Nat.sub_le _ _) t.isLt)).2.2.2 (iblk m c 3 t) r j := by
  rw [outsAt0_C m c t h0 h1 h2]
  dsimp only
  frame_out
  simp only [read_unread_whole]
  generalize (outsAt0 m c (t.val - 1) _).2.2.2 = X
  generalize hb3 : (iblk m c 3 t : Vec Ideal S8x128 .f32) = b3
  generalize hb4 : (iblk m c 4 t : Vec Ideal S256x64 .f32) = b4
  generalize hb5 : (iblk m c 5 t : Vec Ideal S256x64 .f32) = b5
  change Vec Ideal S8x128 .f32 at b3
  change Vec Ideal S256x64 .f32 at b4
  change Vec Ideal S256x64 .f32 at b5
  clear hb3 hb4 hb5 h0 h1 h2
  simp only [sclC0, sclC1, sclC2, sclC3, sclC4, sclC5, sclC6, sclC7]
  fin_vals j with hj
  all_goals
    (pointwise [k0_pay5, k0_pay6, k0_pay4, k0_pay168, k0_pay164, k0_pay160, k0_pay156, k0_pay150, k0_pay144, k0_pay139, k0_pay134, k0_pay172]
     simp (disch := omega) only [sel_lane, hj, Nat.reduceEqDiff, ↓reduceIte]
     first
       | exact scl_tile b4 b5 X b3 _ _ 7 j r 0 hj (fun x => by pointwise) (fun x => by pointwise)
       | exact scl_tile b4 b5 X b3 _ _ 6 j r 0 hj (fun x => by pointwise) (fun x => by pointwise)
       | exact scl_tile b4 b5 X b3 _ _ 5 j r 0 hj (fun x => by pointwise) (fun x => by pointwise)
       | exact scl_tile b4 b5 X b3 _ _ 4 j r 0 hj (fun x => by pointwise) (fun x => by pointwise)
       | exact scl_tile b4 b5 X b3 _ _ 3 j r 0 hj (fun x => by pointwise) (fun x => by pointwise)
       | exact scl_tile b4 b5 X b3 _ _ 2 j r 0 hj (fun x => by pointwise) (fun x => by pointwise)
       | exact scl_tile b4 b5 X b3 _ _ 1 j r 0 hj (fun x => by pointwise) (fun x => by pointwise)
       | exact scl_tile b4 b5 X b3 _ _ 0 j r 0 hj (fun x => Eq.trans (by pointwise) (col0 X r x)) (fun x => by pointwise)
       | trace_state)

theorem scalesT_C (c : Dev nD) (t : Fin cfg0.N) (h0 : ¬t.val % 49 = 0) (h1 : ¬t.val < 48) (h2 : t.val % 49 = 48) (q : Fin 1) (j : Fin 8) (r : Fin 256) :
    ((outsAt0 m c t.val t.isLt).2.2.1 (ix3 q j r) : EReal) = sclAt (iblk m c 4 t) (iblk m c 5 t) (outsAt0 m c (t.val - 1) (Nat.lt_of_le_of_lt (Nat.sub_le _ _) t.isLt)).2.2.2 (iblk m c 3 t) r j := by
  rw [outsAt0_C m c t h0 h1 h2]
  dsimp only
  frame_out
  simp only [read_unread_whole]
  generalize (outsAt0 m c (t.val - 1) _).2.2.2 = X
  generalize hb3 : (iblk m c 3 t : Vec Ideal S8x128 .f32) = b3
  generalize hb4 : (iblk m c 4 t : Vec Ideal S256x64 .f32) = b4
  generalize hb5 : (iblk m c 5 t : Vec Ideal S256x64 .f32) = b5
  change Vec Ideal S8x128 .f32 at b3
  change Vec Ideal S256x64 .f32 at b4
  change Vec Ideal S256x64 .f32 at b5
  clear hb3 hb4 hb5 h0 h1 h2
  simp only [sclC0, sclC1, sclC2, sclC3, sclC4, sclC5, sclC6, sclC7]
  fin_vals j with hj
  all_goals
    (pointwise [k0_pay5, k0_pay6, k0_pay4, k0_pay168, k0_pay164, k0_pay160, k0_pay156, k0_pay150, k0_pay144, k0_pay139, k0_pay134, k0_pay172]
     simp (disch := omega) only [sel_lane, hj, Nat.reduceEqDiff, ↓reduceIte]
     first
       | exact scl_tile b4 b5 X b3 _ _ 7 j r 0 hj (fun x => by pointwise) (fun x => by pointwise)
       | exact scl_tile b4 b5 X b3 _ _ 6 j r 0 hj (fun x => by pointwise) (fun x => by pointwise)
       | exact scl_tile b4 b5 X b3 _ _ 5 j r 0 hj (fun x => by pointwise) (fun x => by pointwise)
       | exact scl_tile b4 b5 X b3 _ _ 4 j r 0 hj (fun x => by pointwise) (fun x => by pointwise)
       | exact scl_tile b4 b5 X b3 _ _ 3 j r 0 hj (fun x => by pointwise) (fun x => by pointwise)
       | exact scl_tile b4 b5 X b3 _ _ 2 j r 0 hj (fun x => by pointwise) (fun x => by pointwise)
       | exact scl_tile b4 b5 X b3 _ _ 1 j r 0 hj (fun x => by pointwise) (fun x => by pointwise)
       | exact scl_tile b4 b5 X b3 _ _ 0 j r 0 hj (fun x => Eq.trans (by pointwise) (col0 X r x)) (fun x => by pointwise)
       | trace_state)

end Cert.KernelIdeal.Block

end
-- ==== Proof.Spec.lean ====
/-
  The mathematics both programs compute, on the argument arrays: the query projection of the dequantised activations, and
  per row and head the row functions of `Proof/Row.lean`.
-/
module

public import proofs.«01_k».proof.Proof.Row
public import Idealize.ShloMosaic.Lib.Pointwise

@[expose] public section

noncomputable section

open Idealize.ShloMosaic

namespace Cert.Spec

/-- Row `s` of a batch reads this row of the rotary tables: two runs of 2048 rows. -/
def ropeRow (s : Fin 4096) : Fin 16384 :=
  if s.val < 2048 then ⟨4096 + s.val, by omega⟩ else ⟨8192 + s.val, by omega⟩

variable (a0 : Vec Ideal ⟨3, ![3, 4096, 8192]⟩ .fp8e4m3) (a1 : Vec Ideal ⟨3, ![3, 4096, 64]⟩ .f32) (a2 : Vec Ideal ⟨2, ![8192, 1024]⟩ .bf16)
  (a3 : Vec Ideal ⟨2, ![8, 128]⟩ .f32) (a4 a5 : Vec Ideal ⟨2, ![16384, 64]⟩ .f32)

/-- The query of batch `b`, row `s`, head `h`, column `x`: the dequantised row times the weight column. -/
def query (b : Fin 3) (s : Fin 4096) (h : Fin 8) (x : Fin 128) : EReal :=
  ∑ k : Fin 8192, (a0 (ix3 b s k) : EReal) * (a1 (ix3 b s ⟨k.val / 128, by omega⟩) : EReal) * (a2 (ix2 k ⟨h.val * 128 + x.val, by omega⟩) : EReal)

/-- The scale of the row's head. -/
def scale (b : Fin 3) (s : Fin 4096) (h : Fin 8) : EReal :=
  Row.scl (fun l => a4 (ix2 (ropeRow s) l)) (fun l => a5 (ix2 (ropeRow s) l)) (query a0 a1 a2 b s h) (fun x => a3 (ix2 h x))

/-- The code of the row's head at column `k`. -/
def code (b : Fin 3) (s : Fin 4096) (h : Fin 8) (k : Fin 128) : EReal :=
  Row.code (fun l => a4 (ix2 (ropeRow s) l)) (fun l => a5 (ix2 (ropeRow s) l)) (query a0 a1 a2 b s h) (fun x => a3 (ix2 h x)) k

end Cert.Spec

end
-- ==== Proof.Final.lean ====
/-
  The three result arrays of the kernel's run, at an index, are the functions of `Proof/Spec.lean`.
-/
module

public import proofs.«01_k».proof.Proof.Block
public import proofs.«01_k».proof.Proof.Spec
public import proofs.«01_k».proof.Proof.Gen.KernelIdeal.Value

@[expose] public section

set_option maxRecDepth 16384

noncomputable section

open Idealize.ShloMosaic Idealize.ShloMosaic.TcCoe

namespace Cert.KernelIdeal.Final

open Cert.KernelIdeal Cert.KernelIdeal.Gen Cert.KernelIdeal.Block

variable (m : (ℓ : Loc nD τ sig) → Buf (Elt Ideal) ℓ)

/-! ## Where each window's block lies -/

theorem idx0 : ∀ t : Fin grid0.N, t.val < 48 → win0_0.index t = ![t.val, 0] ∧ win0_1.index t = ![t.val, 0] := by decide +kernel
theorem idx2 : ∀ t : Fin grid0.N, win0_2.index t = ![0, 0] ∧ win0_3.index t = ![0, 0] := by decide +kernel
theorem idx4 : ∀ t : Fin grid0.N, 1 ≤ t.val → win0_4.index t = ![if (t.val - 1) % 16 < 8 then 16 + (t.val - 1) % 16 else 32 + (t.val - 1) % 16, 0]
    ∧ win0_5.index t = ![if (t.val - 1) % 16 < 8 then 16 + (t.val - 1) % 16 else 32 + (t.val - 1) % 16, 0] := by decide +kernel
theorem idx6 : ∀ t : Fin grid0.N, (cfg0.win 6).flush t = true → 1 ≤ t.val ∧ win0_6.index t = ![t.val - 1, 0] := by decide +kernel
theorem idx7 : ∀ t : Fin grid0.N, (cfg0.win 7).flush t = true → 1 ≤ t.val ∧ win0_7.index t = ![t.val - 1, 0] := by decide +kernel
theorem idx8 : ∀ t : Fin grid0.N, (cfg0.win 8).flush t = true → 1 ≤ t.val ∧ win0_8.index t = ![(t.val - 1) / 16, 0, (t.val - 1) % 16] := by decide +kernel

theorem in0 (c : Dev nD) (t : Fin cfg0.N) (ht : t.val < 48) (r : Fin 256) (k : Fin 8192) :
    (iblk m c 0 t : Vec Ideal S256x8192 .fp8e4m3) (ix2 r k) = m ((c : Thread nD τ).loc main_arg0) (ix3 ⟨(t.val * 256 + r.val) / 4096, by omega⟩ ⟨(t.val * 256 + r.val) % 4096, by omega⟩ k) := by
  blk_simp [iblk]
  have e : (win0_0.blk t).view.emb (ix2 r k) = (ix2 ⟨t.val * 256 + r.val, by omega⟩ k : S12288x8192.Idx) := by
    blk_ext [(idx0 t ht).1]
  rw [e]
  entry_read
  pointwise

theorem in1 (c : Dev nD) (t : Fin cfg0.N) (ht : t.val < 48) (r : Fin 256) (k : Fin 64) :
    (iblk m c 1 t : Vec Ideal S256x64 .f32) (ix2 r k) = m ((c : Thread nD τ).loc main_arg1) (ix3 ⟨(t.val * 256 + r.val) / 4096, by omega⟩ ⟨(t.val * 256 + r.val) % 4096, by omega⟩ k) := by
  blk_simp [iblk]
  have e : (win0_1.blk t).view.emb (ix2 r k) = (ix2 ⟨t.val * 256 + r.val, by omega⟩ k : S12288x64.Idx) := by
    blk_ext [(idx0 t ht).2]
  rw [e]
  entry_read
  pointwise

theorem in2 (c : Dev nD) (t : Fin cfg0.N) : (iblk m c 2 t : Vec Ideal S8192x1024 .bf16) = m ((c : Thread nD τ).loc main_arg2) := by
  funext y
  blk_simp [iblk]
  have e : (win0_2.blk t).view.emb y = y := by
    blk_ext [(idx2 t).1]
  rw [e, V_main_arg2]

theorem in3 (c : Dev nD) (t : Fin cfg0.N) : (iblk m c 3 t : Vec Ideal S8x128 .f32) = m ((c : Thread nD τ).loc main_arg3) := by
  funext y
  blk_simp [iblk]
  have e : (win0_3.blk t).view.emb y = y := by
    blk_ext [(idx2 t).2]
  rw [e, V_main_arg3]

theorem rope_val (t s : ℕ) (r : ℕ) (ht : 1 ≤ t) (ht' : t ≤ 48) (hr : r < 256) (hs : ((t - 1) * 256 + r) % 4096 = s) (hs' : s < 4096) :
    (if (t - 1) % 16 < 8 then 16 + (t - 1) % 16 else 32 + (t - 1) % 16) * 256 + r = (Spec.ropeRow ⟨s, hs'⟩).val := by
  unfold Spec.ropeRow
  split <;> split <;> simp only [] at * <;> omega

theorem in4 (c : Dev nD) (t : Fin cfg0.N) (ht : 1 ≤ t.val) (r : Fin 256) (l : Fin 64) (s : Fin 4096) (hs : ((t.val - 1) * 256 + r.val) % 4096 = s.val) :
    (iblk m c 4 t : Vec Ideal S256x64 .f32) (ix2 r l) = m ((c : Thread nD τ).loc main_arg4) (ix2 (Spec.ropeRow s) l) := by
  blk_simp [iblk]
  have h := rope_val t.val s.val r.val ht (by have := t.isLt; exact Nat.le_of_lt_succ this) r.isLt hs s.isLt
  have e : (win0_4.blk t).view.emb (ix2 r l) = (ix2 (Spec.ropeRow s) l : S16384x64.Idx) := by
    blk_ext [(idx4 t ht).1]
  rw [e, V_main_arg4]

theorem in5 (c : Dev nD) (t : Fin cfg0.N) (ht : 1 ≤ t.val) (r : Fin 256) (l : Fin 64) (s : Fin 4096) (hs : ((t.val - 1) * 256 + r.val) % 4096 = s.val) :
    (iblk m c 5 t : Vec Ideal S256x64 .f32) (ix2 r l) = m ((c : Thread nD τ).loc main_arg5) (ix2 (Spec.ropeRow s) l) := by
  blk_simp [iblk]
  have h := rope_val t.val s.val r.val ht (by have := t.isLt; exact Nat.le_of_lt_succ this) r.isLt hs s.isLt
  have e : (win0_5.blk t).view.emb (ix2 r l) = (ix2 (Spec.ropeRow s) l : S16384x64.Idx) := by
    blk_ext [(idx4 t ht).2]
  rw [e, V_main_arg5]

/-! ## A point's block -/

/-- The argument arrays. -/
abbrev A0 (c : Dev nD) : Vec Ideal S3x4096x8192 .fp8e4m3 := m ((c : Thread nD τ).loc main_arg0)
abbrev A1 (c : Dev nD) : Vec Ideal S3x4096x64 .f32 := m ((c : Thread nD τ).loc main_arg1)
abbrev A2 (c : Dev nD) : Vec Ideal S8192x1024 .bf16 := m ((c : Thread nD τ).loc main_arg2)
abbrev A3 (c : Dev nD) : Vec Ideal S8x128 .f32 := m ((c : Thread nD τ).loc main_arg3)
abbrev A4 (c : Dev nD) : Vec Ideal S16384x64 .f32 := m ((c : Thread nD τ).loc main_arg4)
abbrev A5 (c : Dev nD) : Vec Ideal S16384x64 .f32 := m ((c : Thread nD τ).loc main_arg5)

theorem ltN {n : ℕ} (h : n < cfg0.N) : n < 49 := h

/-- The accumulator a point leaves is its block of the query. -/
theorem acc_any (c : Dev nD) (t : Fin cfg0.N) (ht : t.val < 48) :
    (outsAt0 m c t.val t.isLt).2.2.2 = accBlk (iblk m c 0 t) (iblk m c 1 t) (iblk m c 2 t) := by
  by_cases h : t.val % 49 = 0
  · exact acc_A m c t h ht (by omega)
  · exact acc_B m c t h ht (by omega)

theorem acc_at (c : Dev nD) (t : Fin cfg0.N) (ht : t.val < 48) (r : Fin 256) (j : Fin 8) (x : Fin 128) (b : Fin 3) (s : Fin 4096)
    (hb : (t.val * 256 + r.val) / 4096 = b.val) (hs : (t.val * 256 + r.val) % 4096 = s.val) (hx) :
    ((outsAt0 m c t.val t.isLt).2.2.2 (ix2 r ⟨j.val * 128 + x.val, hx⟩) : EReal) = Spec.query (A0 m c) (A1 m c) (A2 m c) b s j x := by
  rw [acc_any m c t ht]
  unfold accBlk Spec.query deqBlk
  refine Finset.sum_congr rfl fun k _ => ?_
  have e0 := in0 m c t ht r k
  have e1 := in1 m c t ht r ⟨k.val / 128, by omega⟩
  have hb' : (⟨(t.val * 256 + r.val) / 4096, by omega⟩ : Fin 3) = b := Fin.ext hb
  have hs' : (⟨(t.val * 256 + r.val) % 4096, by omega⟩ : Fin 4096) = s := Fin.ext hs
  rw [hb', hs'] at e0 e1
  rw [in2]
  exact congrArg₂ (· * ·) (congrArg₂ (· * ·) e0 e1) rfl

/-- The accumulator a later point finds. -/
theorem prev_at (c : Dev nD) (t : Fin cfg0.N) (ht : 1 ≤ t.val) (r : Fin 256) (j : Fin 8) (x : Fin 128) (b : Fin 3) (s : Fin 4096)
    (hb : ((t.val - 1) * 256 + r.val) / 4096 = b.val) (hs : ((t.val - 1) * 256 + r.val) % 4096 = s.val) (hx) (hlt) :
    ((outsAt0 m c (t.val - 1) hlt).2.2.2 (ix2 r ⟨j.val * 128 + x.val, hx⟩) : EReal) = Spec.query (A0 m c) (A1 m c) (A2 m c) b s j x :=
  acc_at m c ⟨t.val - 1, hlt⟩ (by have := ltN t.isLt; show t.val - 1 < 48; omega) r j x b s hb hs hx

theorem row_eq (c : Dev nD) (t : Fin cfg0.N) (ht : 1 ≤ t.val) (r : Fin 256) (j : Fin 8) (b : Fin 3) (s : Fin 4096)
    (hb : ((t.val - 1) * 256 + r.val) / 4096 = b.val) (hs : ((t.val - 1) * 256 + r.val) % 4096 = s.val) (hlt) :
    sclAt (iblk m c 4 t) (iblk m c 5 t) (outsAt0 m c (t.val - 1) hlt).2.2.2 (iblk m c 3 t) r j
      = Spec.scale (A0 m c) (A1 m c) (A2 m c) (A3 m c) (A4 m c) (A5 m c) b s j
    ∧ ∀ k, codeAt (iblk m c 4 t) (iblk m c 5 t) (outsAt0 m c (t.val - 1) hlt).2.2.2 (iblk m c 3 t) r j k
      = Spec.code (A0 m c) (A1 m c) (A2 m c) (A3 m c) (A4 m c) (A5 m c) b s j k := by
  unfold sclAt codeAt Spec.scale Spec.code
  have e4 : (fun l => (iblk m c 4 t : Vec Ideal S256x64 .f32) (ix2 r l)) = fun l => A4 m c (ix2 (Spec.ropeRow s) l) := funext fun l => in4 m c t ht r l s hs
  have e5 : (fun l => (iblk m c 5 t : Vec Ideal S256x64 .f32) (ix2 r l)) = fun l => A5 m c (ix2 (Spec.ropeRow s) l) := funext fun l => in5 m c t ht r l s hs
  have eq : (fun x : Fin 128 => ((outsAt0 m c (t.val - 1) hlt).2.2.2 (ix2 r ⟨j.val * 128 + x.val, by omega⟩) : EReal)) = Spec.query (A0 m c) (A1 m c) (A2 m c) b s j :=
    funext fun x => prev_at m c t ht r j x b s hb hs _ hlt
  rw [e4, e5, eq, in3]
  exact ⟨rfl, fun _ => rfl⟩

theorem codes_pt (c : Dev nD) (t : Fin cfg0.N) (ht : 1 ≤ t.val) (r : Fin 256) (z : Fin 1024) (b : Fin 3) (s : Fin 4096)
    (hb : ((t.val - 1) * 256 + r.val) / 4096 = b.val) (hs : ((t.val - 1) * 256 + r.val) % 4096 = s.val) :
    ((outsAt0 m c t.val t.isLt).1 (ix2 r z) : EReal)
      = Spec.code (A0 m c) (A1 m c) (A2 m c) (A3 m c) (A4 m c) (A5 m c) b s ⟨z.val / 128, by omega⟩ ⟨z.val % 128, by omega⟩ := by
  have := ltN t.isLt
  by_cases h : t.val < 48
  · exact (codes_B m c t (by omega) h (by omega) (ix2 r z)).trans ((row_eq m c t ht r _ b s hb hs _).2 _)
  · exact (codes_C m c t (by omega) h (by omega) (ix2 r z)).trans ((row_eq m c t ht r _ b s hb hs _).2 _)

theorem scales_pt (c : Dev nD) (t : Fin cfg0.N) (ht : 1 ≤ t.val) (r : Fin 256) (j : Fin 8) (b : Fin 3) (s : Fin 4096)
    (hb : ((t.val - 1) * 256 + r.val) / 4096 = b.val) (hs : ((t.val - 1) * 256 + r.val) % 4096 = s.val) :
    ((outsAt0 m c t.val t.isLt).2.1 (ix2 r j) : EReal) = Spec.scale (A0 m c) (A1 m c) (A2 m c) (A3 m c) (A4 m c) (A5 m c) b s j := by
  have := ltN t.isLt
  by_cases h : t.val < 48
  · exact (scales_B m c t (by omega) h (by omega) r j).trans (row_eq m c t ht r _ b s hb hs _).1
  · exact (scales_C m c t (by omega) h (by omega) r j).trans (row_eq m c t ht r _ b s hb hs _).1

theorem scalesT_pt (c : Dev nD) (t : Fin cfg0.N) (ht : 1 ≤ t.val) (q : Fin 1) (j : Fin 8) (r : Fin 256) (b : Fin 3) (s : Fin 4096)
    (hb : ((t.val - 1) * 256 + r.val) / 4096 = b.val) (hs : ((t.val - 1) * 256 + r.val) % 4096 = s.val) :
    ((outsAt0 m c t.val t.isLt).2.2.1 (ix3 q j r) : EReal) = Spec.scale (A0 m c) (A1 m c) (A2 m c) (A3 m c) (A4 m c) (A5 m c) b s j := by
  have := ltN t.isLt
  by_cases h : t.val < 48
  · exact (scalesT_B m c t (by omega) h (by omega) q j r).trans (row_eq m c t ht r _ b s hb hs _).1
  · exact (scalesT_C m c t (by omega) h (by omega) q j r).trans (row_eq m c t ht r _ b s hb hs _).1

/-! ## The arrays -/

/-- The codes, by rows. -/
def F6 (c : Dev nD) : Vec Ideal S12288x1024 .fp8e4m3 := fun i =>
  Spec.code (A0 m c) (A1 m c) (A2 m c) (A3 m c) (A4 m c) (A5 m c) ⟨(i 0).val / 4096, Nat.div_lt_of_lt_mul (i 0).isLt⟩
    ⟨(i 0).val % 4096, Nat.mod_lt _ (by decide)⟩ ⟨(i 1).val / 128, Nat.div_lt_of_lt_mul (i 1).isLt⟩ ⟨(i 1).val % 128, Nat.mod_lt _ (by decide)⟩

/-- The scales, by rows. -/
def F7 (c : Dev nD) : Vec Ideal S12288x8 .f32 := fun i =>
  Spec.scale (A0 m c) (A1 m c) (A2 m c) (A3 m c) (A4 m c) (A5 m c) ⟨(i 0).val / 4096, Nat.div_lt_of_lt_mul (i 0).isLt⟩
    ⟨(i 0).val % 4096, Nat.mod_lt _ (by decide)⟩ (i 1)

/-- The scales, by heads. -/
def F8 (c : Dev nD) : Vec Ideal S3x8x4096 .f32 := fun i =>
  Spec.scale (A0 m c) (A1 m c) (A2 m c) (A3 m c) (A4 m c) (A5 m c) (i 0) (i 2) (i 1)

theorem final6 (c : Dev nD) : (dats m 0 c).arrAt 6 cfg0.N = F6 m c := by
  refine (dats m 0 c).arrAt_eq_of_covers 6 _ (by decide +kernel) fun t hf y => ?_
  blk_simp
  rw [after0_6]
  have hl := ltN t.isLt
  obtain ⟨h1, hi⟩ := idx6 t hf
  change S256x1024.Idx at y
  idx_vars y
  have e : (win0_6.blk t).view.emb (ix2 y0 y1) = (ix2 ⟨(t.val - 1) * 256 + y0.val, by omega⟩ y1 : S12288x1024.Idx) := by
    blk_ext [hi]
  refine (codes_pt m c t h1 y0 y1 ⟨((t.val - 1) * 256 + y0.val) / 4096, by omega⟩ ⟨((t.val - 1) * 256 + y0.val) % 4096, by omega⟩ rfl rfl).trans ?_
  exact (congrArg (F6 m c) e).symm

theorem final7 (c : Dev nD) : (dats m 0 c).arrAt 7 cfg0.N = F7 m c := by
  refine (dats m 0 c).arrAt_eq_of_covers 7 _ (by decide +kernel) fun t hf y => ?_
  blk_simp
  rw [after0_7]
  have hl := ltN t.isLt
  obtain ⟨h1, hi⟩ := idx7 t hf
  change S256x8.Idx at y
  idx_vars y
  have e : (win0_7.blk t).view.emb (ix2 y0 y1) = (ix2 ⟨(t.val - 1) * 256 + y0.val, by omega⟩ y1 : S12288x8.Idx) := by
    blk_ext [hi]
  refine (scales_pt m c t h1 y0 y1 ⟨((t.val - 1) * 256 + y0.val) / 4096, by omega⟩ ⟨((t.val - 1) * 256 + y0.val) % 4096, by omega⟩ rfl rfl).trans ?_
  exact (congrArg (F7 m c) e).symm

theorem final8 (c : Dev nD) : (dats m 0 c).arrAt 8 cfg0.N = F8 m c := by
  refine (dats m 0 c).arrAt_eq_of_covers 8 _ (by decide +kernel) fun t hf y => ?_
  blk_simp
  rw [after0_8]
  have hl := ltN t.isLt
  obtain ⟨h1, hi⟩ := idx8 t hf
  change S1x8x256.Idx at y
  idx_vars y
  have e : (win0_8.blk t).view.emb (ix3 y0 y1 y2) = (ix3 ⟨(t.val - 1) / 16, by omega⟩ y1 ⟨(t.val - 1) % 16 * 256 + y2.val, by omega⟩ : S3x8x4096.Idx) := by
    blk_ext [hi]
  refine (scalesT_pt m c t h1 y0 y1 y2 ⟨(t.val - 1) / 16, by omega⟩ ⟨(t.val - 1) % 16 * 256 + y2.val, by omega⟩ (by show _ = (t.val - 1) / 16; omega) (by show _ = (t.val - 1) % 16 * 256 + y2.val; omega)).trans ?_
  exact (congrArg (F8 m c) e).symm

end Cert.KernelIdeal.Final

end
-- ==== Proof.RefRow.lean ====
/-
  The reference's three results at an index are the functions of `Proof/Spec.lean`.
-/
module

public import proofs.«01_k».proof.Proof.Spec
public import proofs.«01_k».proof.Proof.Gen.ReferenceIdeal.Value
public import Idealize.ShloMosaic.Lib.Pointwise

@[expose] public section

set_option maxRecDepth 16384

noncomputable section

open Idealize.ShloMosaic Idealize.ShloMosaic.TcCoe

namespace Cert.ReferenceIdeal.Row

open Cert.ReferenceIdeal Cert.ReferenceIdeal.Gen

/-- The largest magnitude of a row. -/
theorem max_at (R : FVec Ideal S3x4096x8x128 .f32) (b : Fin 3) (s : Fin 4096) (h : Fin 8) :
    multiReduction .maximumf [3] S3x4096x8 (absf R) 0xFF800000#32 reduces_S3x4096x8x128_S3x4096x8 (.inl rfl) rfl (ix3 b s h)
      = Finset.fold max (Ideal.ofBits .f32 4286578688#32) (fun x => FloatOps.absf (F := Ideal) (φ := .f32) (R (ix4 b s h x))) Finset.univ := by
  pointwise

/-- The scale from the largest magnitude. -/
theorem sel_at (M : FVec Ideal S3x4096x8 .f32) (b : Fin 3) (s : Fin 4096) (h : Fin 8) :
    select (cmpf .oeq M (broadcast S3x4096x8 (Scalar.ofBits .f32 0x00000000#32))) (broadcast S3x4096x8 (Scalar.ofBits .f32 0x3F800000#32))
        (divf M (broadcast S3x4096x8 (Scalar.ofBits .f32 0x43E00000#32))) (ix3 b s h)
      = if M (ix3 b s h) = 0 then 1 else Ideal.div (M (ix3 b s h)) (Ideal.ofBits .f32 1138753536#32) := by
  pointwise

theorem pay2_eq (q : FVec Ideal S3x4096x8x128 .f32) (C : FVec Ideal S1x2x2048x1x64 .f32) (Sn : FVec Ideal S2x2048x64 .f32)
    (M : FVec Ideal S3x4096x8 .f32)
    (hM : multiReduction .maximumf [3] S3x4096x8 (absf (k0_pay1 q C Sn)) 0xFF800000#32 reduces_S3x4096x8x128_S3x4096x8 (.inl rfl) rfl = M) :
    k0_pay2 q C Sn = select (cmpf .oeq M (broadcast S3x4096x8 (Scalar.ofBits .f32 0x00000000#32))) (broadcast S3x4096x8 (Scalar.ofBits .f32 0x3F800000#32))
        (divf M (broadcast S3x4096x8 (Scalar.ofBits .f32 0x43E00000#32))) := by
  subst hM
  rfl

/-- The scales from the rotated rows. -/
theorem pay2_at (q : FVec Ideal S3x4096x8x128 .f32) (C : FVec Ideal S1x2x2048x1x64 .f32) (Sn : FVec Ideal S2x2048x64 .f32)
    (b : Fin 3) (s : Fin 4096) (h : Fin 8) (A : EReal)
    (hA : Finset.fold max (Ideal.ofBits .f32 4286578688#32) (fun x => FloatOps.absf (F := Ideal) (φ := .f32) (k0_pay1 q C Sn (ix4 b s h x))) Finset.univ = A) :
    k0_pay2 q C Sn (ix3 b s h) = if A = 0 then 1 else Ideal.div A (Ideal.ofBits .f32 1138753536#32) := by
  rw [← hA, ← max_at (k0_pay1 q C Sn) b s h]
  generalize hM : multiReduction .maximumf [3] S3x4096x8 (absf (k0_pay1 q C Sn)) 0xFF800000#32 reduces_S3x4096x8x128_S3x4096x8 (.inl rfl) rfl = M
  rw [pay2_eq q C Sn M hM, sel_at]

/-- A row's scale under each of its columns. -/
theorem col_at (T : FVec Ideal S3x4096x8 .f32) (b : Fin 3) (s : Fin 4096) (h : Fin 8) (k : Fin 128) :
    broadcastTo S3x4096x8x128 (shapeCast S3x4096x8x1 T shapeCasts_S3x4096x8_S3x4096x8x1) broadcasts_S3x4096x8x1_S3x4096x8x128 (ix4 b s h k)
      = T (ix3 b s h) := by
  pointwise

/-- The clipped quotient. -/
theorem clip_at (R D : FVec Ideal S3x4096x8x128 .f32) (b : Fin 3) (s : Fin 4096) (h : Fin 8) (k : Fin 128) :
    (truncf .fp8e4m3 (minimumf (broadcast S3x4096x8x128 (Scalar.ofBits .f32 0x43E00000#32))
        (maximumf (broadcast S3x4096x8x128 (Scalar.ofBits .f32 0xC3E00000#32)) (divf R D))) bitsLt_fp8e4m3_f32 (ix4 b s h k) : EReal)
      = min (Ideal.ofBits .f32 1138753536#32) (max (Ideal.ofBits .f32 3286237184#32) (Ideal.div (R (ix4 b s h k)) (D (ix4 b s h k)))) := by
  pointwise

/-- The codes laid out by rows. -/
theorem rows_at (Z : FVec Ideal S3x4096x8x128 .fp8e4m3) (r : Fin 12288) (k : Fin 1024) :
    (shapeCast S12288x1024 Z shapeCasts_S3x4096x8x128_S12288x1024 (ix2 r k) : EReal)
      = Z (ix4 ⟨r.val / 4096, by omega⟩ ⟨r.val % 4096, by omega⟩ ⟨k.val / 128, by omega⟩ ⟨k.val % 128, by omega⟩) := by
  pointwise

theorem pay3_eq (q : FVec Ideal S3x4096x8x128 .f32) (C : FVec Ideal S1x2x2048x1x64 .f32) (Sn : FVec Ideal S2x2048x64 .f32)
    (D : FVec Ideal S3x4096x8x128 .f32) (Z : FVec Ideal S3x4096x8x128 .fp8e4m3)
    (hD : broadcastTo S3x4096x8x128 (shapeCast S3x4096x8x1 (k0_pay2 q C Sn) shapeCasts_S3x4096x8_S3x4096x8x1) broadcasts_S3x4096x8x1_S3x4096x8x128 = D)
    (hZ : truncf .fp8e4m3 (minimumf (broadcast S3x4096x8x128 (Scalar.ofBits .f32 0x43E00000#32))
        (maximumf (broadcast S3x4096x8x128 (Scalar.ofBits .f32 0xC3E00000#32)) (divf (k0_pay1 q C Sn) D))) bitsLt_fp8e4m3_f32 = Z) :
    k0_pay3 q C Sn = shapeCast S12288x1024 Z shapeCasts_S3x4096x8x128_S12288x1024 := by
  subst hD
  subst hZ
  rfl

/-- The codes from the rotated rows and the scales. -/
theorem pay3_at (q : FVec Ideal S3x4096x8x128 .f32) (C : FVec Ideal S1x2x2048x1x64 .f32) (Sn : FVec Ideal S2x2048x64 .f32) (r : Fin 12288) (k : Fin 1024) :
    (k0_pay3 q C Sn (ix2 r k) : EReal)
      = min (Ideal.ofBits .f32 1138753536#32) (max (Ideal.ofBits .f32 3286237184#32)
          (Ideal.div (k0_pay1 q C Sn (ix4 ⟨r.val / 4096, by omega⟩ ⟨r.val % 4096, by omega⟩ ⟨k.val / 128, by omega⟩ ⟨k.val % 128, by omega⟩))
            (k0_pay2 q C Sn (ix3 ⟨r.val / 4096, by omega⟩ ⟨r.val % 4096, by omega⟩ ⟨k.val / 128, by omega⟩)))) := by
  generalize hD : broadcastTo S3x4096x8x128 (shapeCast S3x4096x8x1 (k0_pay2 q C Sn) shapeCasts_S3x4096x8_S3x4096x8x1) broadcasts_S3x4096x8x1_S3x4096x8x128 = D
  generalize hZ : truncf .fp8e4m3 (minimumf (broadcast S3x4096x8x128 (Scalar.ofBits .f32 0x43E00000#32))
        (maximumf (broadcast S3x4096x8x128 (Scalar.ofBits .f32 0xC3E00000#32)) (divf (k0_pay1 q C Sn) D))) bitsLt_fp8e4m3_f32 = Z
  rw [pay3_eq q C Sn D Z hD hZ, rows_at, ← hZ, clip_at, ← hD, col_at]

theorem pay4_at (q : FVec Ideal S3x4096x8x128 .f32) (C : FVec Ideal S1x2x2048x1x64 .f32) (Sn : FVec Ideal S2x2048x64 .f32) (r : Fin 12288) (h : Fin 8) :
    k0_pay4 q C Sn (ix2 r h) = k0_pay2 q C Sn (ix3 ⟨r.val / 4096, by omega⟩ ⟨r.val % 4096, by omega⟩ h) := by
  unfold k0_pay4
  generalize k0_pay2 q C Sn = T
  pointwise

theorem pay5_at (q : FVec Ideal S3x4096x8x128 .f32) (C : FVec Ideal S1x2x2048x1x64 .f32) (Sn : FVec Ideal S2x2048x64 .f32) (b : Fin 3) (h : Fin 8) (s : Fin 4096) :
    k0_pay5 q C Sn (ix3 b h s) = k0_pay2 q C Sn (ix3 b s h) := by
  unfold k0_pay5
  generalize k0_pay2 q C Sn = T
  pointwise

variable (a0 : Vec Ideal S3x4096x8192 .fp8e4m3) (a1 : Vec Ideal S3x4096x64 .f32) (a2 : Vec Ideal S8192x1024 .bf16)
  (a3 : Vec Ideal S8x128 .f32) (a4 a5 : Vec Ideal S16384x64 .f32)

/-- The normalised query. -/
theorem nrm_at (b : Fin 3) (s : Fin 4096) (h : Fin 8) (k : Fin 128) :
    k0_pay9 a0 a1 a2 a3 a4 a5 (ix4 b s h k) = Cert.Row.nrm (Spec.query a0 a1 a2 b s h) (fun x => a3 (ix2 h x)) k := by
  unfold k0_pay9 Cert.Row.nrm Spec.query
  pointwise [k0_pay6]

theorem ropeRow_lo (s : Fin 4096) (hs : s.val / 2048 < 1) (hb) : (⟨4096 + s.val % 2048, hb⟩ : Fin 16384) = Spec.ropeRow s := by
  unfold Spec.ropeRow
  rw [if_pos (by omega)]
  exact Fin.ext (by show 4096 + s.val % 2048 = 4096 + s.val; omega)

theorem ropeRow_hi (s : Fin 4096) (hs : ¬s.val / 2048 < 1) (hb) : (⟨10240 + s.val % 2048, hb⟩ : Fin 16384) = Spec.ropeRow s := by
  unfold Spec.ropeRow
  rw [if_neg (by omega)]
  exact Fin.ext (by show 10240 + s.val % 2048 = 8192 + s.val; omega)

/-- The rotated query. -/
theorem rot_at (b : Fin 3) (s : Fin 4096) (h : Fin 8) (k : Fin 128) :
    k0_pay1 (k0_pay9 a0 a1 a2 a3 a4 a5) (k0_pay10 a0 a1 a2 a3 a4 a5) (k0_pay11 a0 a1 a2 a3 a4 a5) (ix4 b s h k)
      = Cert.Row.rot (fun l => a4 (ix2 (Spec.ropeRow s) l)) (fun l => a5 (ix2 (Spec.ropeRow s) l))
          (Spec.query a0 a1 a2 b s h) (fun x => a3 (ix2 h x)) k := by
  unfold Cert.Row.rot
  simp only [← nrm_at a0 a1 a2 a3 a4 a5]
  generalize k0_pay9 a0 a1 a2 a3 a4 a5 = q
  unfold k0_pay10 k0_pay11
  pointwise [k0_pay1, k0_pay7, k0_pay8]
  by_cases hk : k.val < 64 <;> by_cases hs : s.val / 2048 < 1 <;>
    simp only [hk, hs, ↓reduceDIte, ropeRow_lo, ropeRow_hi, not_false_eq_true]
  all_goals
    have e : ∀ hb, (⟨64 + (k.val - 64), hb⟩ : Fin 128) = k := fun _ => Fin.ext (by show 64 + (k.val - 64) = k.val; omega)
    simp only [e]

/-- The scale the third and second results hold. -/
theorem scale_at (b : Fin 3) (s : Fin 4096) (h : Fin 8) :
    k0_pay2 (k0_pay9 a0 a1 a2 a3 a4 a5) (k0_pay10 a0 a1 a2 a3 a4 a5) (k0_pay11 a0 a1 a2 a3 a4 a5) (ix3 b s h)
      = Spec.scale a0 a1 a2 a3 a4 a5 b s h := by
  rw [pay2_at _ _ _ b s h _ rfl]
  simp only [rot_at]
  rfl

theorem G6_at (r : Fin 12288) (k : Fin 1024) :
    (Value.G6 a0 a1 a2 a3 a4 a5 (ix2 r k) : EReal)
      = Spec.code a0 a1 a2 a3 a4 a5 ⟨r.val / 4096, by omega⟩ ⟨r.val % 4096, by omega⟩ ⟨k.val / 128, by omega⟩ ⟨k.val % 128, by omega⟩ := by
  refine (pay3_at _ _ _ r k).trans ?_
  rw [scale_at, rot_at]
  rfl

theorem G7_at (r : Fin 12288) (h : Fin 8) :
    Value.G7 a0 a1 a2 a3 a4 a5 (ix2 r h) = Spec.scale a0 a1 a2 a3 a4 a5 ⟨r.val / 4096, by omega⟩ ⟨r.val % 4096, by omega⟩ h :=
  (pay4_at _ _ _ r h).trans (scale_at a0 a1 a2 a3 a4 a5 _ _ h)

theorem G8_at (b : Fin 3) (h : Fin 8) (s : Fin 4096) :
    Value.G8 a0 a1 a2 a3 a4 a5 (ix3 b h s) = Spec.scale a0 a1 a2 a3 a4 a5 b s h :=
  (pay5_at _ _ _ b h s).trans (scale_at a0 a1 a2 a3 a4 a5 b s h)

end Cert.ReferenceIdeal.Row

end
-- ==== Proof.DequantWq.lean ====
/-
  The weight dequantisation of the query projection: the kernel's result at an index is the code times the scale of its
  block of 128 rows and 128 columns, and so is the reference's.
-/
module

public import proofs.«01_k».proof.Proof.Gen.DequantWqIdeal.Value
public import proofs.«01_k».proof.Proof.Gen.DequantWqRefIdeal.Value
public import proofs.«01_k».proof.Defs
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DequantWqIdeal.Deq

open Cert.DequantWqIdeal Cert.DequantWqIdeal.Gen

variable (m : (ℓ : Loc nD τ sig) → Buf (Elt Ideal) ℓ)

/-- The dequantised entry at row `r`, column `k` of the block of rows at grid point `g`. -/
def deqAt (b0 : Vec Ideal S64x8 .f32) (b1 : Vec Ideal S1024x1024 .fp8e4m3) (g : Fin 8) (r : Fin 1024) (k : Fin 1024) : EReal :=
  (b1 (ix2 r k) : EReal) * (b0 (ix2 ⟨g.val * 8 + r.val / 128, by omega⟩ ⟨k.val / 128, by omega⟩) : EReal)

/-! The scale the kernel reads for row tile `w` and column tile `j`: row `8 t + w`, column `j`. -/

theorem off1 : ∀ t : Fin grid0.N, ∀ w : Fin 8, k0_off1 (grid0.coords t) (BitVec.ofNat 32 w.val) 0 = t.val * 8 + w.val
    ∧ k0_off1 (grid0.coords t) (BitVec.ofNat 32 w.val) 1 = 0 := by decide +kernel
theorem off2 : ∀ t : Fin grid0.N, ∀ w : Fin 8, k0_off2 (grid0.coords t) (BitVec.ofNat 32 w.val) 0 = t.val * 8 + w.val
    ∧ k0_off2 (grid0.coords t) (BitVec.ofNat 32 w.val) 1 = 1 := by decide +kernel
theorem off3 : ∀ t : Fin grid0.N, ∀ w : Fin 8, k0_off3 (grid0.coords t) (BitVec.ofNat 32 w.val) 0 = t.val * 8 + w.val
    ∧ k0_off3 (grid0.coords t) (BitVec.ofNat 32 w.val) 1 = 2 := by decide +kernel
theorem off4 : ∀ t : Fin grid0.N, ∀ w : Fin 8, k0_off4 (grid0.coords t) (BitVec.ofNat 32 w.val) 0 = t.val * 8 + w.val
    ∧ k0_off4 (grid0.coords t) (BitVec.ofNat 32 w.val) 1 = 3 := by decide +kernel
theorem off5 : ∀ t : Fin grid0.N, ∀ w : Fin 8, k0_off5 (grid0.coords t) (BitVec.ofNat 32 w.val) 0 = t.val * 8 + w.val
    ∧ k0_off5 (grid0.coords t) (BitVec.ofNat 32 w.val) 1 = 4 := by decide +kernel
theorem off6 : ∀ t : Fin grid0.N, ∀ w : Fin 8, k0_off6 (grid0.coords t) (BitVec.ofNat 32 w.val) 0 = t.val * 8 + w.val
    ∧ k0_off6 (grid0.coords t) (BitVec.ofNat 32 w.val) 1 = 5 := by decide +kernel
theorem off7 : ∀ t : Fin grid0.N, ∀ w : Fin 8, k0_off7 (grid0.coords t) (BitVec.ofNat 32 w.val) 0 = t.val * 8 + w.val
    ∧ k0_off7 (grid0.coords t) (BitVec.ofNat 32 w.val) 1 = 6 := by decide +kernel
theorem off8 : ∀ t : Fin grid0.N, ∀ w : Fin 8, k0_off8 (grid0.coords t) (BitVec.ofNat 32 w.val) 0 = t.val * 8 + w.val
    ∧ k0_off8 (grid0.coords t) (BitVec.ofNat 32 w.val) 1 = 7 := by decide +kernel

/-- One entry of one tile. -/
theorem deq_close (b0 : Vec Ideal S64x8 .f32) (b1 : Vec Ideal S1024x1024 .fp8e4m3) {t : Nat} {g : Fin 8} (hg : t = g.val)
    (z : S1024x1024.Idx) {w j : Nat} {r : Fin 1024} {k : Fin 1024} {i : Fin 64} {l : Fin 8}
    (ho : i.val = t * 8 + w ∧ l.val = j) (h0 : (z 0).val = r.val) (h1 : (z 1).val = k.val)
    (hr : r.val / 128 = w) (hk : k.val / 128 = j) :
    (b1 (ix2 r k) : EReal) * (b0 (ix2 i l) : EReal) = deqAt b0 b1 g (z 0) (z 1) := by
  obtain ⟨hi, hl⟩ := ho
  have e0 : z 0 = r := Fin.ext h0
  have e1 : z 1 = k := Fin.ext h1
  have ei : i = ⟨g.val * 8 + r.val / 128, by omega⟩ := Fin.ext (by show i.val = g.val * 8 + r.val / 128; omega)
  have el : l = ⟨k.val / 128, by omega⟩ := Fin.ext (by show l.val = k.val / 128; omega)
  rw [e0, e1, ei, el]; rfl

theorem out_at (c : Dev nD) (t : Fin cfg0.N) (g : Fin 8) (hg : t.val = g.val) (z : S1024x1024.Idx) :
    (outsAt0 m c t z : EReal) = deqAt (iblk m c 0 t) (iblk m c 1 t) g (z 0) (z 1) := by
  unfold outsAt0 out0_A_2 kernelRun0_A
  dsimp only
  try frame_out
  try simp only [read_unread_whole]
  generalize hb0 : (iblk m c 0 t : Vec Ideal S64x8 .f32) = b0
  generalize hb1 : (iblk m c 1 t : Vec Ideal S1024x1024 .fp8e4m3) = b1
  change Vec Ideal S64x8 .f32 at b0
  change Vec Ideal S1024x1024 .fp8e4m3 at b1
  clear hb0 hb1
  canon_tiles x h
  all_goals
    idx_vars x
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67,
      k0_pay68, k0_pay69]
  · exact deq_close b0 b1 hg z (off8 t 7) h0 h1 (show (896 + x0.val) / 128 = 7 by omega) (show (896 + x1.val) / 128 = 7 by omega)
  · exact deq_close b0 b1 hg z (off7 t 7) h0 h1 (show (896 + x0.val) / 128 = 7 by omega) (show (768 + x1.val) / 128 = 6 by omega)
  · exact deq_close b0 b1 hg z (off6 t 7) h0 h1 (show (896 + x0.val) / 128 = 7 by omega) (show (640 + x1.val) / 128 = 5 by omega)
  · exact deq_close b0 b1 hg z (off5 t 7) h0 h1 (show (896 + x0.val) / 128 = 7 by omega) (show (512 + x1.val) / 128 = 4 by omega)
  · exact deq_close b0 b1 hg z (off4 t 7) h0 h1 (show (896 + x0.val) / 128 = 7 by omega) (show (384 + x1.val) / 128 = 3 by omega)
  · exact deq_close b0 b1 hg z (off3 t 7) h0 h1 (show (896 + x0.val) / 128 = 7 by omega) (show (256 + x1.val) / 128 = 2 by omega)
  · exact deq_close b0 b1 hg z (off2 t 7) h0 h1 (show (896 + x0.val) / 128 = 7 by omega) (show (128 + x1.val) / 128 = 1 by omega)
  · exact deq_close b0 b1 hg z (off1 t 7) h0 h1 (show (896 + x0.val) / 128 = 7 by omega) (show x1.val / 128 = 0 by omega)
  · exact deq_close b0 b1 hg z (off8 t 6) h0 h1 (show (768 + x0.val) / 128 = 6 by omega) (show (896 + x1.val) / 128 = 7 by omega)
  · exact deq_close b0 b1 hg z (off7 t 6) h0 h1 (show (768 + x0.val) / 128 = 6 by omega) (show (768 + x1.val) / 128 = 6 by omega)
  · exact deq_close b0 b1 hg z (off6 t 6) h0 h1 (show (768 + x0.val) / 128 = 6 by omega) (show (640 + x1.val) / 128 = 5 by omega)
  · exact deq_close b0 b1 hg z (off5 t 6) h0 h1 (show (768 + x0.val) / 128 = 6 by omega) (show (512 + x1.val) / 128 = 4 by omega)
  · exact deq_close b0 b1 hg z (off4 t 6) h0 h1 (show (768 + x0.val) / 128 = 6 by omega) (show (384 + x1.val) / 128 = 3 by omega)
  · exact deq_close b0 b1 hg z (off3 t 6) h0 h1 (show (768 + x0.val) / 128 = 6 by omega) (show (256 + x1.val) / 128 = 2 by omega)
  · exact deq_close b0 b1 hg z (off2 t 6) h0 h1 (show (768 + x0.val) / 128 = 6 by omega) (show (128 + x1.val) / 128 = 1 by omega)
  · exact deq_close b0 b1 hg z (off1 t 6) h0 h1 (show (768 + x0.val) / 128 = 6 by omega) (show x1.val / 128 = 0 by omega)
  · exact deq_close b0 b1 hg z (off8 t 5) h0 h1 (show (640 + x0.val) / 128 = 5 by omega) (show (896 + x1.val) / 128 = 7 by omega)
  · exact deq_close b0 b1 hg z (off7 t 5) h0 h1 (show (640 + x0.val) / 128 = 5 by omega) (show (768 + x1.val) / 128 = 6 by omega)
  · exact deq_close b0 b1 hg z (off6 t 5) h0 h1 (show (640 + x0.val) / 128 = 5 by omega) (show (640 + x1.val) / 128 = 5 by omega)
  · exact deq_close b0 b1 hg z (off5 t 5) h0 h1 (show (640 + x0.val) / 128 = 5 by omega) (show (512 + x1.val) / 128 = 4 by omega)
  · exact deq_close b0 b1 hg z (off4 t 5) h0 h1 (show (640 + x0.val) / 128 = 5 by omega) (show (384 + x1.val) / 128 = 3 by omega)
  · exact deq_close b0 b1 hg z (off3 t 5) h0 h1 (show (640 + x0.val) / 128 = 5 by omega) (show (256 + x1.val) / 128 = 2 by omega)
  · exact deq_close b0 b1 hg z (off2 t 5) h0 h1 (show (640 + x0.val) / 128 = 5 by omega) (show (128 + x1.val) / 128 = 1 by omega)
  · exact deq_close b0 b1 hg z (off1 t 5) h0 h1 (show (640 + x0.val) / 128 = 5 by omega) (show x1.val / 128 = 0 by omega)
  · exact deq_close b0 b1 hg z (off8 t 4) h0 h1 (show (512 + x0.val) / 128 = 4 by omega) (show (896 + x1.val) / 128 = 7 by omega)
  · exact deq_close b0 b1 hg z (off7 t 4) h0 h1 (show (512 + x0.val) / 128 = 4 by omega) (show (768 + x1.val) / 128 = 6 by omega)
  · exact deq_close b0 b1 hg z (off6 t 4) h0 h1 (show (512 + x0.val) / 128 = 4 by omega) (show (640 + x1.val) / 128 = 5 by omega)
  · exact deq_close b0 b1 hg z (off5 t 4) h0 h1 (show (512 + x0.val) / 128 = 4 by omega) (show (512 + x1.val) / 128 = 4 by omega)
  · exact deq_close b0 b1 hg z (off4 t 4) h0 h1 (show (512 + x0.val) / 128 = 4 by omega) (show (384 + x1.val) / 128 = 3 by omega)
  · exact deq_close b0 b1 hg z (off3 t 4) h0 h1 (show (512 + x0.val) / 128 = 4 by omega) (show (256 + x1.val) / 128 = 2 by omega)
  · exact deq_close b0 b1 hg z (off2 t 4) h0 h1 (show (512 + x0.val) / 128 = 4 by omega) (show (128 + x1.val) / 128 = 1 by omega)
  · exact deq_close b0 b1 hg z (off1 t 4) h0 h1 (show (512 + x0.val) / 128 = 4 by omega) (show x1.val / 128 = 0 by omega)
  · exact deq_close b0 b1 hg z (off8 t 3) h0 h1 (show (384 + x0.val) / 128 = 3 by omega) (show (896 + x1.val) / 128 = 7 by omega)
  · exact deq_close b0 b1 hg z (off7 t 3) h0 h1 (show (384 + x0.val) / 128 = 3 by omega) (show (768 + x1.val) / 128 = 6 by omega)
  · exact deq_close b0 b1 hg z (off6 t 3) h0 h1 (show (384 + x0.val) / 128 = 3 by omega) (show (640 + x1.val) / 128 = 5 by omega)
  · exact deq_close b0 b1 hg z (off5 t 3) h0 h1 (show (384 + x0.val) / 128 = 3 by omega) (show (512 + x1.val) / 128 = 4 by omega)
  · exact deq_close b0 b1 hg z (off4 t 3) h0 h1 (show (384 + x0.val) / 128 = 3 by omega) (show (384 + x1.val) / 128 = 3 by omega)
  · exact deq_close b0 b1 hg z (off3 t 3) h0 h1 (show (384 + x0.val) / 128 = 3 by omega) (show (256 + x1.val) / 128 = 2 by omega)
  · exact deq_close b0 b1 hg z (off2 t 3) h0 h1 (show (384 + x0.val) / 128 = 3 by omega) (show (128 + x1.val) / 128 = 1 by omega)
  · exact deq_close b0 b1 hg z (off1 t 3) h0 h1 (show (384 + x0.val) / 128 = 3 by omega) (show x1.val / 128 = 0 by omega)
  · exact deq_close b0 b1 hg z (off8 t 2) h0 h1 (show (256 + x0.val) / 128 = 2 by omega) (show (896 + x1.val) / 128 = 7 by omega)
  · exact deq_close b0 b1 hg z (off7 t 2) h0 h1 (show (256 + x0.val) / 128 = 2 by omega) (show (768 + x1.val) / 128 = 6 by omega)
  · exact deq_close b0 b1 hg z (off6 t 2) h0 h1 (show (256 + x0.val) / 128 = 2 by omega) (show (640 + x1.val) / 128 = 5 by omega)
  · exact deq_close b0 b1 hg z (off5 t 2) h0 h1 (show (256 + x0.val) / 128 = 2 by omega) (show (512 + x1.val) / 128 = 4 by omega)
  · exact deq_close b0 b1 hg z (off4 t 2) h0 h1 (show (256 + x0.val) / 128 = 2 by omega) (show (384 + x1.val) / 128 = 3 by omega)
  · exact deq_close b0 b1 hg z (off3 t 2) h0 h1 (show (256 + x0.val) / 128 = 2 by omega) (show (256 + x1.val) / 128 = 2 by omega)
  · exact deq_close b0 b1 hg z (off2 t 2) h0 h1 (show (256 + x0.val) / 128 = 2 by omega) (show (128 + x1.val) / 128 = 1 by omega)
  · exact deq_close b0 b1 hg z (off1 t 2) h0 h1 (show (256 + x0.val) / 128 = 2 by omega) (show x1.val / 128 = 0 by omega)
  · exact deq_close b0 b1 hg z (off8 t 1) h0 h1 (show (128 + x0.val) / 128 = 1 by omega) (show (896 + x1.val) / 128 = 7 by omega)
  · exact deq_close b0 b1 hg z (off7 t 1) h0 h1 (show (128 + x0.val) / 128 = 1 by omega) (show (768 + x1.val) / 128 = 6 by omega)
  · exact deq_close b0 b1 hg z (off6 t 1) h0 h1 (show (128 + x0.val) / 128 = 1 by omega) (show (640 + x1.val) / 128 = 5 by omega)
  · exact deq_close b0 b1 hg z (off5 t 1) h0 h1 (show (128 + x0.val) / 128 = 1 by omega) (show (512 + x1.val) / 128 = 4 by omega)
  · exact deq_close b0 b1 hg z (off4 t 1) h0 h1 (show (128 + x0.val) / 128 = 1 by omega) (show (384 + x1.val) / 128 = 3 by omega)
  · exact deq_close b0 b1 hg z (off3 t 1) h0 h1 (show (128 + x0.val) / 128 = 1 by omega) (show (256 + x1.val) / 128 = 2 by omega)
  · exact deq_close b0 b1 hg z (off2 t 1) h0 h1 (show (128 + x0.val) / 128 = 1 by omega) (show (128 + x1.val) / 128 = 1 by omega)
  · exact deq_close b0 b1 hg z (off1 t 1) h0 h1 (show (128 + x0.val) / 128 = 1 by omega) (show x1.val / 128 = 0 by omega)
  · exact deq_close b0 b1 hg z (off8 t 0) h0 h1 (show x0.val / 128 = 0 by omega) (show (896 + x1.val) / 128 = 7 by omega)
  · exact deq_close b0 b1 hg z (off7 t 0) h0 h1 (show x0.val / 128 = 0 by omega) (show (768 + x1.val) / 128 = 6 by omega)
  · exact deq_close b0 b1 hg z (off6 t 0) h0 h1 (show x0.val / 128 = 0 by omega) (show (640 + x1.val) / 128 = 5 by omega)
  · exact deq_close b0 b1 hg z (off5 t 0) h0 h1 (show x0.val / 128 = 0 by omega) (show (512 + x1.val) / 128 = 4 by omega)
  · exact deq_close b0 b1 hg z (off4 t 0) h0 h1 (show x0.val / 128 = 0 by omega) (show (384 + x1.val) / 128 = 3 by omega)
  · exact deq_close b0 b1 hg z (off3 t 0) h0 h1 (show x0.val / 128 = 0 by omega) (show (256 + x1.val) / 128 = 2 by omega)
  · exact deq_close b0 b1 hg z (off2 t 0) h0 h1 (show x0.val / 128 = 0 by omega) (show (128 + x1.val) / 128 = 1 by omega)
  · exact deq_close b0 b1 hg z (off1 t 0) h0 h1 (show x0.val / 128 = 0 by omega) (show x1.val / 128 = 0 by omega)

theorem idx : ∀ t : Fin grid0.N, win0_0.index t = ![0, 0] ∧ win0_1.index t = ![t.val, 0] ∧ win0_2.index t = ![t.val, 0] := by
  decide +kernel

/-- The dequantised weight at row `r` and column `k`: the code times the scale of its block. -/
def deq (w : Vec Ideal S8192x1024 .fp8e4m3) (s : Vec Ideal S64x8 .f32) (r : Fin 8192) (k : Fin 1024) : EReal :=
  (w (ix2 r k) : EReal) * (s (ix2 ⟨r.val / 128, by omega⟩ ⟨k.val / 128, by omega⟩) : EReal)

/-- The dequantised weight. -/
def F2 (w : Vec Ideal S8192x1024 .fp8e4m3) (s : Vec Ideal S64x8 .f32) : Vec Ideal S8192x1024 .bf16 := fun y => deq w s (y 0) (y 1)

/-- The argument arrays. -/
abbrev A0 (c : Dev nD) : Vec Ideal S8192x1024 .fp8e4m3 := m ((c : Thread nD τ).loc main_arg0)
abbrev A1 (c : Dev nD) : Vec Ideal S64x8 .f32 := m ((c : Thread nD τ).loc main_arg1)

theorem in0 (c : Dev nD) (t : Fin cfg0.N) : (iblk m c 0 t : Vec Ideal S64x8 .f32) = A1 m c := by
  funext y
  blk_simp [iblk]
  have e : (win0_0.blk t).view.emb y = y := by
    blk_ext [(idx t).1]
  rw [e, V_main_arg1]

theorem in1 (c : Dev nD) (t : Fin cfg0.N) (r : Fin 1024) (k : Fin 1024) (z : Fin 8192) (hz : z.val = t.val * 1024 + r.val) :
    (iblk m c 1 t : Vec Ideal S1024x1024 .fp8e4m3) (ix2 r k) = A0 m c (ix2 z k) := by
  blk_simp [iblk]
  have e : (win0_1.blk t).view.emb (ix2 r k) = (ix2 z k : S8192x1024.Idx) := by
    blk_ext [(idx t).2.1]
  rw [e, V_main_arg0]

theorem deqAt_eq {b0 : Vec Ideal S64x8 .f32} {b1 : Vec Ideal S1024x1024 .fp8e4m3} {w : Vec Ideal S8192x1024 .fp8e4m3} {s : Vec Ideal S64x8 .f32}
    {g : Fin 8} {r : Fin 1024} {k : Fin 1024} {z : Fin 8192} (hs : b0 = s) (hw : b1 (ix2 r k) = w (ix2 z k)) (hz : z.val = g.val * 1024 + r.val) :
    deqAt b0 b1 g r k = deq w s z k := by
  unfold deqAt deq
  have e : (⟨g.val * 8 + r.val / 128, by omega⟩ : Fin 64) = ⟨z.val / 128, by omega⟩ :=
    Fin.ext (by show g.val * 8 + r.val / 128 = z.val / 128; omega)
  rw [hs, hw, e]

/-- The result of the kernel's run. -/
theorem final2 (c : Dev nD) : (dats m 0 c).arrAt 2 cfg0.N = F2 (A0 m c) (A1 m c) := by
  refine (dats m 0 c).arrAt_eq_of_covers 2 _ (by decide +kernel) fun t hf y => ?_
  blk_simp
  rw [after0_2]
  change S1024x1024.Idx at y
  idx_vars y
  have ht : t.val < 8 := t.isLt
  have e : (win0_2.blk t).view.emb (ix2 y0 y1) = (ix2 ⟨t.val * 1024 + y0.val, by omega⟩ y1 : S8192x1024.Idx) := by
    blk_ext [(idx t).2.2]
  refine (out_at m c t ⟨t.val, ht⟩ rfl (ix2 y0 y1)).trans ?_
  refine (deqAt_eq (in0 m c t) (in1 m c t y0 y1 ⟨t.val * 1024 + y0.val, by omega⟩ rfl) rfl).trans ?_
  exact (congrArg (F2 (A0 m c) (A1 m c)) e).symm

/-! ## The reference -/

theorem ref_at (w : Vec Ideal S8192x1024 .fp8e4m3) (s : Vec Ideal S64x8 .f32) (r : Fin 8192) (k : Fin 1024) :
    (Cert.DequantWqRefIdeal.Gen.k0_pay1 w s (ix2 r k) : EReal) = deq w s r k := by
  pointwise [Cert.DequantWqRefIdeal.Gen.k0_pay1, deq]

theorem results (c : Dev nD) : Cert.DequantWqRefIdeal.Value.G2 (A0 m c) (A1 m c) = F2 (A0 m c) (A1 m c) := by
  funext y
  idx_vars y
  exact ref_at _ _ y0 y1

theorem algebraic : Cert.algebraic_DequantWqIdeal_DequantWqRefIdeal := by
  intro m g m' g' _ hagree
  refine ⟨fun c => F2 (A0 m c) (A1 m c), ?_, ?_⟩
  · refine (θ_run _ _ _).mono (fun r h c => ?_) (Cert.DequantWqIdeal.Value.run_blocks m g)
    obtain ⟨h2, h⟩ := h c
    exact ⟨h2.trans (final2 m c), h⟩
  · refine (θ_run _ _ _).mono (fun r h c => ?_) (Cert.DequantWqRefIdeal.Value.run m' g')
    obtain ⟨h2, h⟩ := h c
    obtain ⟨a0, a1⟩ := hagree c
    rw [a0, a1] at h2
    exact ⟨h2.trans (results m c), h⟩

end Cert.DequantWqIdeal.Deq

end
-- ==== Proof.DequantWo.lean ====
/-
  The weight dequantisation of the output projection: the kernel's result at an index is the code times the scale of its
  block of 128 rows and 128 columns, and so is the reference's.
-/
module

public import proofs.«01_k».proof.Proof.Gen.DequantWoIdeal.Value
public import proofs.«01_k».proof.Proof.Gen.DequantWoRefIdeal.Value
public import proofs.«01_k».proof.Defs
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DequantWoIdeal.Deq

open Cert.DequantWoIdeal Cert.DequantWoIdeal.Gen

variable (m : (ℓ : Loc nD τ sig) → Buf (Elt Ideal) ℓ)

/-- The dequantised entry at row `r`, column `k` of the block of rows at grid point `g`. -/
def deqAt (b0 : Vec Ideal S8x64 .f32) (b1 : Vec Ideal S256x8192 .fp8e4m3) (g : Fin 4) (r : Fin 256) (k : Fin 8192) : EReal :=
  (b1 (ix2 r k) : EReal) * (b0 (ix2 ⟨g.val * 2 + r.val / 128, by omega⟩ ⟨k.val / 128, by omega⟩) : EReal)

/-! The scale the kernel reads for row tile `w` and column tile `j`: row `2 t + w`, column `j`. -/

theorem off1 : ∀ t : Fin grid0.N, ∀ w : Fin 2, k0_off1 (grid0.coords t) (BitVec.ofNat 32 w.val) 0 = t.val * 2 + w.val
    ∧ k0_off1 (grid0.coords t) (BitVec.ofNat 32 w.val) 1 = 0 := by decide +kernel
theorem off2 : ∀ t : Fin grid0.N, ∀ w : Fin 2, k0_off2 (grid0.coords t) (BitVec.ofNat 32 w.val) 0 = t.val * 2 + w.val
    ∧ k0_off2 (grid0.coords t) (BitVec.ofNat 32 w.val) 1 = 1 := by decide +kernel
theorem off3 : ∀ t : Fin grid0.N, ∀ w : Fin 2, k0_off3 (grid0.coords t) (BitVec.ofNat 32 w.val) 0 = t.val * 2 + w.val
    ∧ k0_off3 (grid0.coords t) (BitVec.ofNat 32 w.val) 1 = 2 := by decide +kernel
theorem off4 : ∀ t : Fin grid0.N, ∀ w : Fin 2, k0_off4 (grid0.coords t) (BitVec.ofNat 32 w.val) 0 = t.val * 2 + w.val
    ∧ k0_off4 (grid0.coords t) (BitVec.ofNat 32 w.val) 1 = 3 := by decide +kernel
theorem off5 : ∀ t : Fin grid0.N, ∀ w : Fin 2, k0_off5 (grid0.coords t) (BitVec.ofNat 32 w.val) 0 = t.val * 2 + w.val
    ∧ k0_off5 (grid0.coords t) (BitVec.ofNat 32 w.val) 1 = 4 := by decide +kernel
theorem off6 : ∀ t : Fin grid0.N, ∀ w : Fin 2, k0_off6 (grid0.coords t) (BitVec.ofNat 32 w.val) 0 = t.val * 2 + w.val
    ∧ k0_off6 (grid0.coords t) (BitVec.ofNat 32 w.val) 1 = 5 := by decide +kernel
theorem off7 : ∀ t : Fin grid0.N, ∀ w : Fin 2, k0_off7 (grid0.coords t) (BitVec.ofNat 32 w.val) 0 = t.val * 2 + w.val
    ∧ k0_off7 (grid0.coords t) (BitVec.ofNat 32 w.val) 1 = 6 := by decide +kernel
theorem off8 : ∀ t : Fin grid0.N, ∀ w : Fin 2, k0_off8 (grid0.coords t) (BitVec.ofNat 32 w.val) 0 = t.val * 2 + w.val
    ∧ k0_off8 (grid0.coords t) (BitVec.ofNat 32 w.val) 1 = 7 := by decide +kernel
theorem off9 : ∀ t : Fin grid0.N, ∀ w : Fin 2, k0_off9 (grid0.coords t) (BitVec.ofNat 32 w.val) 0 = t.val * 2 + w.val
    ∧ k0_off9 (grid0.coords t) (BitVec.ofNat 32 w.val) 1 = 8 := by decide +kernel
theorem off10 : ∀ t : Fin grid0.N, ∀ w : Fin 2, k0_off10 (grid0.coords t) (BitVec.ofNat 32 w.val) 0 = t.val * 2 + w.val
    ∧ k0_off10 (grid0.coords t) (BitVec.ofNat 32 w.val) 1 = 9 := by decide +kernel
theorem off11 : ∀ t : Fin grid0.N, ∀ w : Fin 2, k0_off11 (grid0.coords t) (BitVec.ofNat 32 w.val) 0 = t.val * 2 + w.val
    ∧ k0_off11 (grid0.coords t) (BitVec.ofNat 32 w.val) 1 = 10 := by decide +kernel
theorem off12 : ∀ t : Fin grid0.N, ∀ w : Fin 2, k0_off12 (grid0.coords t) (BitVec.ofNat 32 w.val) 0 = t.val * 2 + w.val
    ∧ k0_off12 (grid0.coords t) (BitVec.ofNat 32 w.val) 1 = 11 := by decide +kernel
theorem off13 : ∀ t : Fin grid0.N, ∀ w : Fin 2, k0_off13 (grid0.coords t) (BitVec.ofNat 32 w.val) 0 = t.val * 2 + w.val
    ∧ k0_off13 (grid0.coords t) (BitVec.ofNat 32 w.val) 1 = 12 := by decide +kernel
theorem off14 : ∀ t : Fin grid0.N, ∀ w : Fin 2, k0_off14 (grid0.coords t) (BitVec.ofNat 32 w.val) 0 = t.val * 2 + w.val
    ∧ k0_off14 (grid0.coords t) (BitVec.ofNat 32 w.val) 1 = 13 := by decide +kernel
theorem off15 : ∀ t : Fin grid0.N, ∀ w : Fin 2, k0_off15 (grid0.coords t) (BitVec.ofNat 32 w.val) 0 = t.val * 2 + w.val
    ∧ k0_off15 (grid0.coords t) (BitVec.ofNat 32 w.val) 1 = 14 := by decide +kernel
theorem off16 : ∀ t : Fin grid0.N, ∀ w : Fin 2, k0_off16 (grid0.coords t) (BitVec.ofNat 32 w.val) 0 = t.val * 2 + w.val
    ∧ k0_off16 (grid0.coords t) (BitVec.ofNat 32 w.val) 1 = 15 := by decide +kernel
theorem off17 : ∀ t : Fin grid0.N, ∀ w : Fin 2, k0_off17 (grid0.coords t) (BitVec.ofNat 32 w.val) 0 = t.val * 2 + w.val
    ∧ k0_off17 (grid0.coords t) (BitVec.ofNat 32 w.val) 1 = 16 := by decide +kernel
theorem off18 : ∀ t : Fin grid0.N, ∀ w : Fin 2, k0_off18 (grid0.coords t) (BitVec.ofNat 32 w.val) 0 = t.val * 2 + w.val
    ∧ k0_off18 (grid0.coords t) (BitVec.ofNat 32 w.val) 1 = 17 := by decide +kernel
theorem off19 : ∀ t : Fin grid0.N, ∀ w : Fin 2, k0_off19 (grid0.coords t) (BitVec.ofNat 32 w.val) 0 = t.val * 2 + w.val
    ∧ k0_off19 (grid0.coords t) (BitVec.ofNat 32 w.val) 1 = 18 := by decide +kernel
theorem off20 : ∀ t : Fin grid0.N, ∀ w : Fin 2, k0_off20 (grid0.coords t) (BitVec.ofNat 32 w.val) 0 = t.val * 2 + w.val
    ∧ k0_off20 (grid0.coords t) (BitVec.ofNat 32 w.val) 1 = 19 := by decide +kernel
theorem off21 : ∀ t : Fin grid0.N, ∀ w : Fin 2, k0_off21 (grid0.coords t) (BitVec.ofNat 32 w.val) 0 = t.val * 2 + w.val
    ∧ k0_off21 (grid0.coords t) (BitVec.ofNat 32 w.val) 1 = 20 := by decide +kernel
theorem off22 : ∀ t : Fin grid0.N, ∀ w : Fin 2, k0_off22 (grid0.coords t) (BitVec.ofNat 32 w.val) 0 = t.val * 2 + w.val
    ∧ k0_off22 (grid0.coords t) (BitVec.ofNat 32 w.val) 1 = 21 := by decide +kernel
theorem off23 : ∀ t : Fin grid0.N, ∀ w : Fin 2, k0_off23 (grid0.coords t) (BitVec.ofNat 32 w.val) 0 = t.val * 2 + w.val
    ∧ k0_off23 (grid0.coords t) (BitVec.ofNat 32 w.val) 1 = 22 := by decide +kernel
theorem off24 : ∀ t : Fin grid0.N, ∀ w : Fin 2, k0_off24 (grid0.coords t) (BitVec.ofNat 32 w.val) 0 = t.val * 2 + w.val
    ∧ k0_off24 (grid0.coords t) (BitVec.ofNat 32 w.val) 1 = 23 := by decide +kernel
theorem off25 : ∀ t : Fin grid0.N, ∀ w : Fin 2, k0_off25 (grid0.coords t) (BitVec.ofNat 32 w.val) 0 = t.val * 2 + w.val
    ∧ k0_off25 (grid0.coords t) (BitVec.ofNat 32 w.val) 1 = 24 := by decide +kernel
theorem off26 : ∀ t : Fin grid0.N, ∀ w : Fin 2, k0_off26 (grid0.coords t) (BitVec.ofNat 32 w.val) 0 = t.val * 2 + w.val
    ∧ k0_off26 (grid0.coords t) (BitVec.ofNat 32 w.val) 1 = 25 := by decide +kernel
theorem off27 : ∀ t : Fin grid0.N, ∀ w : Fin 2, k0_off27 (grid0.coords t) (BitVec.ofNat 32 w.val) 0 = t.val * 2 + w.val
    ∧ k0_off27 (grid0.coords t) (BitVec.ofNat 32 w.val) 1 = 26 := by decide +kernel
theorem off28 : ∀ t : Fin grid0.N, ∀ w : Fin 2, k0_off28 (grid0.coords t) (BitVec.ofNat 32 w.val) 0 = t.val * 2 + w.val
    ∧ k0_off28 (grid0.coords t) (BitVec.ofNat 32 w.val) 1 = 27 := by decide +kernel
theorem off29 : ∀ t : Fin grid0.N, ∀ w : Fin 2, k0_off29 (grid0.coords t) (BitVec.ofNat 32 w.val) 0 = t.val * 2 + w.val
    ∧ k0_off29 (grid0.coords t) (BitVec.ofNat 32 w.val) 1 = 28 := by decide +kernel
theorem off30 : ∀ t : Fin grid0.N, ∀ w : Fin 2, k0_off30 (grid0.coords t) (BitVec.ofNat 32 w.val) 0 = t.val * 2 + w.val
    ∧ k0_off30 (grid0.coords t) (BitVec.ofNat 32 w.val) 1 = 29 := by decide +kernel
theorem off31 : ∀ t : Fin grid0.N, ∀ w : Fin 2, k0_off31 (grid0.coords t) (BitVec.ofNat 32 w.val) 0 = t.val * 2 + w.val
    ∧ k0_off31 (grid0.coords t) (BitVec.ofNat 32 w.val) 1 = 30 := by decide +kernel
theorem off32 : ∀ t : Fin grid0.N, ∀ w : Fin 2, k0_off32 (grid0.coords t) (BitVec.ofNat 32 w.val) 0 = t.val * 2 + w.val
    ∧ k0_off32 (grid0.coords t) (BitVec.ofNat 32 w.val) 1 = 31 := by decide +kernel
theorem off33 : ∀ t : Fin grid0.N, ∀ w : Fin 2, k0_off33 (grid0.coords t) (BitVec.ofNat 32 w.val) 0 = t.val * 2 + w.val
    ∧ k0_off33 (grid0.coords t) (BitVec.ofNat 32 w.val) 1 = 32 := by decide +kernel
theorem off34 : ∀ t : Fin grid0.N, ∀ w : Fin 2, k0_off34 (grid0.coords t) (BitVec.ofNat 32 w.val) 0 = t.val * 2 + w.val
    ∧ k0_off34 (grid0.coords t) (BitVec.ofNat 32 w.val) 1 = 33 := by decide +kernel
theorem off35 : ∀ t : Fin grid0.N, ∀ w : Fin 2, k0_off35 (grid0.coords t) (BitVec.ofNat 32 w.val) 0 = t.val * 2 + w.val
    ∧ k0_off35 (grid0.coords t) (BitVec.ofNat 32 w.val) 1 = 34 := by decide +kernel
theorem off36 : ∀ t : Fin grid0.N, ∀ w : Fin 2, k0_off36 (grid0.coords t) (BitVec.ofNat 32 w.val) 0 = t.val * 2 + w.val
    ∧ k0_off36 (grid0.coords t) (BitVec.ofNat 32 w.val) 1 = 35 := by decide +kernel
theorem off37 : ∀ t : Fin grid0.N, ∀ w : Fin 2, k0_off37 (grid0.coords t) (BitVec.ofNat 32 w.val) 0 = t.val * 2 + w.val
    ∧ k0_off37 (grid0.coords t) (BitVec.ofNat 32 w.val) 1 = 36 := by decide +kernel
theorem off38 : ∀ t : Fin grid0.N, ∀ w : Fin 2, k0_off38 (grid0.coords t) (BitVec.ofNat 32 w.val) 0 = t.val * 2 + w.val
    ∧ k0_off38 (grid0.coords t) (BitVec.ofNat 32 w.val) 1 = 37 := by decide +kernel
theorem off39 : ∀ t : Fin grid0.N, ∀ w : Fin 2, k0_off39 (grid0.coords t) (BitVec.ofNat 32 w.val) 0 = t.val * 2 + w.val
    ∧ k0_off39 (grid0.coords t) (BitVec.ofNat 32 w.val) 1 = 38 := by decide +kernel
theorem off40 : ∀ t : Fin grid0.N, ∀ w : Fin 2, k0_off40 (grid0.coords t) (BitVec.ofNat 32 w.val) 0 = t.val * 2 + w.val
    ∧ k0_off40 (grid0.coords t) (BitVec.ofNat 32 w.val) 1 = 39 := by decide +kernel
theorem off41 : ∀ t : Fin grid0.N, ∀ w : Fin 2, k0_off41 (grid0.coords t) (BitVec.ofNat 32 w.val) 0 = t.val * 2 + w.val
    ∧ k0_off41 (grid0.coords t) (BitVec.ofNat 32 w.val) 1 = 40 := by decide +kernel
theorem off42 : ∀ t : Fin grid0.N, ∀ w : Fin 2, k0_off42 (grid0.coords t) (BitVec.ofNat 32 w.val) 0 = t.val * 2 + w.val
    ∧ k0_off42 (grid0.coords t) (BitVec.ofNat 32 w.val) 1 = 41 := by decide +kernel
theorem off43 : ∀ t : Fin grid0.N, ∀ w : Fin 2, k0_off43 (grid0.coords t) (BitVec.ofNat 32 w.val) 0 = t.val * 2 + w.val
    ∧ k0_off43 (grid0.coords t) (BitVec.ofNat 32 w.val) 1 = 42 := by decide +kernel
theorem off44 : ∀ t : Fin grid0.N, ∀ w : Fin 2, k0_off44 (grid0.coords t) (BitVec.ofNat 32 w.val) 0 = t.val * 2 + w.val
    ∧ k0_off44 (grid0.coords t) (BitVec.ofNat 32 w.val) 1 = 43 := by decide +kernel
theorem off45 : ∀ t : Fin grid0.N, ∀ w : Fin 2, k0_off45 (grid0.coords t) (BitVec.ofNat 32 w.val) 0 = t.val * 2 + w.val
    ∧ k0_off45 (grid0.coords t) (BitVec.ofNat 32 w.val) 1 = 44 := by decide +kernel
theorem off46 : ∀ t : Fin grid0.N, ∀ w : Fin 2, k0_off46 (grid0.coords t) (BitVec.ofNat 32 w.val) 0 = t.val * 2 + w.val
    ∧ k0_off46 (grid0.coords t) (BitVec.ofNat 32 w.val) 1 = 45 := by decide +kernel
theorem off47 : ∀ t : Fin grid0.N, ∀ w : Fin 2, k0_off47 (grid0.coords t) (BitVec.ofNat 32 w.val) 0 = t.val * 2 + w.val
    ∧ k0_off47 (grid0.coords t) (BitVec.ofNat 32 w.val) 1 = 46 := by decide +kernel
theorem off48 : ∀ t : Fin grid0.N, ∀ w : Fin 2, k0_off48 (grid0.coords t) (BitVec.ofNat 32 w.val) 0 = t.val * 2 + w.val
    ∧ k0_off48 (grid0.coords t) (BitVec.ofNat 32 w.val) 1 = 47 := by decide +kernel
theorem off49 : ∀ t : Fin grid0.N, ∀ w : Fin 2, k0_off49 (grid0.coords t) (BitVec.ofNat 32 w.val) 0 = t.val * 2 + w.val
    ∧ k0_off49 (grid0.coords t) (BitVec.ofNat 32 w.val) 1 = 48 := by decide +kernel
theorem off50 : ∀ t : Fin grid0.N, ∀ w : Fin 2, k0_off50 (grid0.coords t) (BitVec.ofNat 32 w.val) 0 = t.val * 2 + w.val
    ∧ k0_off50 (grid0.coords t) (BitVec.ofNat 32 w.val) 1 = 49 := by decide +kernel
theorem off51 : ∀ t : Fin grid0.N, ∀ w : Fin 2, k0_off51 (grid0.coords t) (BitVec.ofNat 32 w.val) 0 = t.val * 2 + w.val
    ∧ k0_off51 (grid0.coords t) (BitVec.ofNat 32 w.val) 1 = 50 := by decide +kernel
theorem off52 : ∀ t : Fin grid0.N, ∀ w : Fin 2, k0_off52 (grid0.coords t) (BitVec.ofNat 32 w.val) 0 = t.val * 2 + w.val
    ∧ k0_off52 (grid0.coords t) (BitVec.ofNat 32 w.val) 1 = 51 := by decide +kernel
theorem off53 : ∀ t : Fin grid0.N, ∀ w : Fin 2, k0_off53 (grid0.coords t) (BitVec.ofNat 32 w.val) 0 = t.val * 2 + w.val
    ∧ k0_off53 (grid0.coords t) (BitVec.ofNat 32 w.val) 1 = 52 := by decide +kernel
theorem off54 : ∀ t : Fin grid0.N, ∀ w : Fin 2, k0_off54 (grid0.coords t) (BitVec.ofNat 32 w.val) 0 = t.val * 2 + w.val
    ∧ k0_off54 (grid0.coords t) (BitVec.ofNat 32 w.val) 1 = 53 := by decide +kernel
theorem off55 : ∀ t : Fin grid0.N, ∀ w : Fin 2, k0_off55 (grid0.coords t) (BitVec.ofNat 32 w.val) 0 = t.val * 2 + w.val
    ∧ k0_off55 (grid0.coords t) (BitVec.ofNat 32 w.val) 1 = 54 := by decide +kernel
theorem off56 : ∀ t : Fin grid0.N, ∀ w : Fin 2, k0_off56 (grid0.coords t) (BitVec.ofNat 32 w.val) 0 = t.val * 2 + w.val
    ∧ k0_off56 (grid0.coords t) (BitVec.ofNat 32 w.val) 1 = 55 := by decide +kernel
theorem off57 : ∀ t : Fin grid0.N, ∀ w : Fin 2, k0_off57 (grid0.coords t) (BitVec.ofNat 32 w.val) 0 = t.val * 2 + w.val
    ∧ k0_off57 (grid0.coords t) (BitVec.ofNat 32 w.val) 1 = 56 := by decide +kernel
theorem off58 : ∀ t : Fin grid0.N, ∀ w : Fin 2, k0_off58 (grid0.coords t) (BitVec.ofNat 32 w.val) 0 = t.val * 2 + w.val
    ∧ k0_off58 (grid0.coords t) (BitVec.ofNat 32 w.val) 1 = 57 := by decide +kernel
theorem off59 : ∀ t : Fin grid0.N, ∀ w : Fin 2, k0_off59 (grid0.coords t) (BitVec.ofNat 32 w.val) 0 = t.val * 2 + w.val
    ∧ k0_off59 (grid0.coords t) (BitVec.ofNat 32 w.val) 1 = 58 := by decide +kernel
theorem off60 : ∀ t : Fin grid0.N, ∀ w : Fin 2, k0_off60 (grid0.coords t) (BitVec.ofNat 32 w.val) 0 = t.val * 2 + w.val
    ∧ k0_off60 (grid0.coords t) (BitVec.ofNat 32 w.val) 1 = 59 := by decide +kernel
theorem off61 : ∀ t : Fin grid0.N, ∀ w : Fin 2, k0_off61 (grid0.coords t) (BitVec.ofNat 32 w.val) 0 = t.val * 2 + w.val
    ∧ k0_off61 (grid0.coords t) (BitVec.ofNat 32 w.val) 1 = 60 := by decide +kernel
theorem off62 : ∀ t : Fin grid0.N, ∀ w : Fin 2, k0_off62 (grid0.coords t) (BitVec.ofNat 32 w.val) 0 = t.val * 2 + w.val
    ∧ k0_off62 (grid0.coords t) (BitVec.ofNat 32 w.val) 1 = 61 := by decide +kernel
theorem off63 : ∀ t : Fin grid0.N, ∀ w : Fin 2, k0_off63 (grid0.coords t) (BitVec.ofNat 32 w.val) 0 = t.val * 2 + w.val
    ∧ k0_off63 (grid0.coords t) (BitVec.ofNat 32 w.val) 1 = 62 := by decide +kernel
theorem off64 : ∀ t : Fin grid0.N, ∀ w : Fin 2, k0_off64 (grid0.coords t) (BitVec.ofNat 32 w.val) 0 = t.val * 2 + w.val
    ∧ k0_off64 (grid0.coords t) (BitVec.ofNat 32 w.val) 1 = 63 := by decide +kernel

/-- One entry of one tile. -/
theorem deq_close (b0 : Vec Ideal S8x64 .f32) (b1 : Vec Ideal S256x8192 .fp8e4m3) {t : Nat} {g : Fin 4} (hg : t = g.val)
    (z : S256x8192.Idx) {w j : Nat} {r : Fin 256} {k : Fin 8192} {i : Fin 8} {l : Fin 64}
    (ho : i.val = t * 2 + w ∧ l.val = j) (h0 : (z 0).val = r.val) (h1 : (z 1).val = k.val)
    (hr : r.val / 128 = w) (hk : k.val / 128 = j) :
    (b1 (ix2 r k) : EReal) * (b0 (ix2 i l) : EReal) = deqAt b0 b1 g (z 0) (z 1) := by
  obtain ⟨hi, hl⟩ := ho
  have e0 : z 0 = r := Fin.ext h0
  have e1 : z 1 = k := Fin.ext h1
  have ei : i = ⟨g.val * 2 + r.val / 128, by omega⟩ := Fin.ext (by show i.val = g.val * 2 + r.val / 128; omega)
  have el : l = ⟨k.val / 128, by omega⟩ := Fin.ext (by show l.val = k.val / 128; omega)
  rw [e0, e1, ei, el]; rfl

set_option maxHeartbeats 4000000 in
theorem out_at (c : Dev nD) (t : Fin cfg0.N) (g : Fin 4) (hg : t.val = g.val) (z : S256x8192.Idx) :
    (outsAt0 m c t z : EReal) = deqAt (iblk m c 0 t) (iblk m c 1 t) g (z 0) (z 1) := by
  unfold outsAt0 out0_A_2 kernelRun0_A
  dsimp only
  try frame_out
  try simp only [read_unread_whole]
  generalize hb0 : (iblk m c 0 t : Vec Ideal S8x64 .f32) = b0
  generalize hb1 : (iblk m c 1 t : Vec Ideal S256x8192 .fp8e4m3) = b1
  change Vec Ideal S8x64 .f32 at b0
  change Vec Ideal S256x8192 .fp8e4m3 at b1
  clear hb0 hb1
  canon_tiles x h
  all_goals
    idx_vars x
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89,
      k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130,
      k0_pay131, k0_pay132, k0_pay133, k0_pay134, k0_pay135, k0_pay136, k0_pay137]
  · exact deq_close b0 b1 hg z (off64 t 1) h0 h1 (show (128 + x0.val) / 128 = 1 by omega) (show (8064 + x1.val) / 128 = 63 by omega)
  · exact deq_close b0 b1 hg z (off63 t 1) h0 h1 (show (128 + x0.val) / 128 = 1 by omega) (show (7936 + x1.val) / 128 = 62 by omega)
  · exact deq_close b0 b1 hg z (off62 t 1) h0 h1 (show (128 + x0.val) / 128 = 1 by omega) (show (7808 + x1.val) / 128 = 61 by omega)
  · exact deq_close b0 b1 hg z (off61 t 1) h0 h1 (show (128 + x0.val) / 128 = 1 by omega) (show (7680 + x1.val) / 128 = 60 by omega)
  · exact deq_close b0 b1 hg z (off60 t 1) h0 h1 (show (128 + x0.val) / 128 = 1 by omega) (show (7552 + x1.val) / 128 = 59 by omega)
  · exact deq_close b0 b1 hg z (off59 t 1) h0 h1 (show (128 + x0.val) / 128 = 1 by omega) (show (7424 + x1.val) / 128 = 58 by omega)
  · exact deq_close b0 b1 hg z (off58 t 1) h0 h1 (show (128 + x0.val) / 128 = 1 by omega) (show (7296 + x1.val) / 128 = 57 by omega)
  · exact deq_close b0 b1 hg z (off57 t 1) h0 h1 (show (128 + x0.val) / 128 = 1 by omega) (show (7168 + x1.val) / 128 = 56 by omega)
  · exact deq_close b0 b1 hg z (off56 t 1) h0 h1 (show (128 + x0.val) / 128 = 1 by omega) (show (7040 + x1.val) / 128 = 55 by omega)
  · exact deq_close b0 b1 hg z (off55 t 1) h0 h1 (show (128 + x0.val) / 128 = 1 by omega) (show (6912 + x1.val) / 128 = 54 by omega)
  · exact deq_close b0 b1 hg z (off54 t 1) h0 h1 (show (128 + x0.val) / 128 = 1 by omega) (show (6784 + x1.val) / 128 = 53 by omega)
  · exact deq_close b0 b1 hg z (off53 t 1) h0 h1 (show (128 + x0.val) / 128 = 1 by omega) (show (6656 + x1.val) / 128 = 52 by omega)
  · exact deq_close b0 b1 hg z (off52 t 1) h0 h1 (show (128 + x0.val) / 128 = 1 by omega) (show (6528 + x1.val) / 128 = 51 by omega)
  · exact deq_close b0 b1 hg z (off51 t 1) h0 h1 (show (128 + x0.val) / 128 = 1 by omega) (show (6400 + x1.val) / 128 = 50 by omega)
  · exact deq_close b0 b1 hg z (off50 t 1) h0 h1 (show (128 + x0.val) / 128 = 1 by omega) (show (6272 + x1.val) / 128 = 49 by omega)
  · exact deq_close b0 b1 hg z (off49 t 1) h0 h1 (show (128 + x0.val) / 128 = 1 by omega) (show (6144 + x1.val) / 128 = 48 by omega)
  · exact deq_close b0 b1 hg z (off48 t 1) h0 h1 (show (128 + x0.val) / 128 = 1 by omega) (show (6016 + x1.val) / 128 = 47 by omega)
  · exact deq_close b0 b1 hg z (off47 t 1) h0 h1 (show (128 + x0.val) / 128 = 1 by omega) (show (5888 + x1.val) / 128 = 46 by omega)
  · exact deq_close b0 b1 hg z (off46 t 1) h0 h1 (show (128 + x0.val) / 128 = 1 by omega) (show (5760 + x1.val) / 128 = 45 by omega)
  · exact deq_close b0 b1 hg z (off45 t 1) h0 h1 (show (128 + x0.val) / 128 = 1 by omega) (show (5632 + x1.val) / 128 = 44 by omega)
  · exact deq_close b0 b1 hg z (off44 t 1) h0 h1 (show (128 + x0.val) / 128 = 1 by omega) (show (5504 + x1.val) / 128 = 43 by omega)
  · exact deq_close b0 b1 hg z (off43 t 1) h0 h1 (show (128 + x0.val) / 128 = 1 by omega) (show (5376 + x1.val) / 128 = 42 by omega)
  · exact deq_close b0 b1 hg z (off42 t 1) h0 h1 (show (128 + x0.val) / 128 = 1 by omega) (show (5248 + x1.val) / 128 = 41 by omega)
  · exact deq_close b0 b1 hg z (off41 t 1) h0 h1 (show (128 + x0.val) / 128 = 1 by omega) (show (5120 + x1.val) / 128 = 40 by omega)
  · exact deq_close b0 b1 hg z (off40 t 1) h0 h1 (show (128 + x0.val) / 128 = 1 by omega) (show (4992 + x1.val) / 128 = 39 by omega)
  · exact deq_close b0 b1 hg z (off39 t 1) h0 h1 (show (128 + x0.val) / 128 = 1 by omega) (show (4864 + x1.val) / 128 = 38 by omega)
  · exact deq_close b0 b1 hg z (off38 t 1) h0 h1 (show (128 + x0.val) / 128 = 1 by omega) (show (4736 + x1.val) / 128 = 37 by omega)
  · exact deq_close b0 b1 hg z (off37 t 1) h0 h1 (show (128 + x0.val) / 128 = 1 by omega) (show (4608 + x1.val) / 128 = 36 by omega)
  · exact deq_close b0 b1 hg z (off36 t 1) h0 h1 (show (128 + x0.val) / 128 = 1 by omega) (show (4480 + x1.val) / 128 = 35 by omega)
  · exact deq_close b0 b1 hg z (off35 t 1) h0 h1 (show (128 + x0.val) / 128 = 1 by omega) (show (4352 + x1.val) / 128 = 34 by omega)
  · exact deq_close b0 b1 hg z (off34 t 1) h0 h1 (show (128 + x0.val) / 128 = 1 by omega) (show (4224 + x1.val) / 128 = 33 by omega)
  · exact deq_close b0 b1 hg z (off33 t 1) h0 h1 (show (128 + x0.val) / 128 = 1 by omega) (show (4096 + x1.val) / 128 = 32 by omega)
  · exact deq_close b0 b1 hg z (off32 t 1) h0 h1 (show (128 + x0.val) / 128 = 1 by omega) (show (3968 + x1.val) / 128 = 31 by omega)
  · exact deq_close b0 b1 hg z (off31 t 1) h0 h1 (show (128 + x0.val) / 128 = 1 by omega) (show (3840 + x1.val) / 128 = 30 by omega)
  · exact deq_close b0 b1 hg z (off30 t 1) h0 h1 (show (128 + x0.val) / 128 = 1 by omega) (show (3712 + x1.val) / 128 = 29 by omega)
  · exact deq_close b0 b1 hg z (off29 t 1) h0 h1 (show (128 + x0.val) / 128 = 1 by omega) (show (3584 + x1.val) / 128 = 28 by omega)
  · exact deq_close b0 b1 hg z (off28 t 1) h0 h1 (show (128 + x0.val) / 128 = 1 by omega) (show (3456 + x1.val) / 128 = 27 by omega)
  · exact deq_close b0 b1 hg z (off27 t 1) h0 h1 (show (128 + x0.val) / 128 = 1 by omega) (show (3328 + x1.val) / 128 = 26 by omega)
  · exact deq_close b0 b1 hg z (off26 t 1) h0 h1 (show (128 + x0.val) / 128 = 1 by omega) (show (3200 + x1.val) / 128 = 25 by omega)
  · exact deq_close b0 b1 hg z (off25 t 1) h0 h1 (show (128 + x0.val) / 128 = 1 by omega) (show (3072 + x1.val) / 128 = 24 by omega)
  · exact deq_close b0 b1 hg z (off24 t 1) h0 h1 (show (128 + x0.val) / 128 = 1 by omega) (show (2944 + x1.val) / 128 = 23 by omega)
  · exact deq_close b0 b1 hg z (off23 t 1) h0 h1 (show (128 + x0.val) / 128 = 1 by omega) (show (2816 + x1.val) / 128 = 22 by omega)
  · exact deq_close b0 b1 hg z (off22 t 1) h0 h1 (show (128 + x0.val) / 128 = 1 by omega) (show (2688 + x1.val) / 128 = 21 by omega)
  · exact deq_close b0 b1 hg z (off21 t 1) h0 h1 (show (128 + x0.val) / 128 = 1 by omega) (show (2560 + x1.val) / 128 = 20 by omega)
  · exact deq_close b0 b1 hg z (off20 t 1) h0 h1 (show (128 + x0.val) / 128 = 1 by omega) (show (2432 + x1.val) / 128 = 19 by omega)
  · exact deq_close b0 b1 hg z (off19 t 1) h0 h1 (show (128 + x0.val) / 128 = 1 by omega) (show (2304 + x1.val) / 128 = 18 by omega)
  · exact deq_close b0 b1 hg z (off18 t 1) h0 h1 (show (128 + x0.val) / 128 = 1 by omega) (show (2176 + x1.val) / 128 = 17 by omega)
  · exact deq_close b0 b1 hg z (off17 t 1) h0 h1 (show (128 + x0.val) / 128 = 1 by omega) (show (2048 + x1.val) / 128 = 16 by omega)
  · exact deq_close b0 b1 hg z (off16 t 1) h0 h1 (show (128 + x0.val) / 128 = 1 by omega) (show (1920 + x1.val) / 128 = 15 by omega)
  · exact deq_close b0 b1 hg z (off15 t 1) h0 h1 (show (128 + x0.val) / 128 = 1 by omega) (show (1792 + x1.val) / 128 = 14 by omega)
  · exact deq_close b0 b1 hg z (off14 t 1) h0 h1 (show (128 + x0.val) / 128 = 1 by omega) (show (1664 + x1.val) / 128 = 13 by omega)
  · exact deq_close b0 b1 hg z (off13 t 1) h0 h1 (show (128 + x0.val) / 128 = 1 by omega) (show (1536 + x1.val) / 128 = 12 by omega)
  · exact deq_close b0 b1 hg z (off12 t 1) h0 h1 (show (128 + x0.val) / 128 = 1 by omega) (show (1408 + x1.val) / 128 = 11 by omega)
  · exact deq_close b0 b1 hg z (off11 t 1) h0 h1 (show (128 + x0.val) / 128 = 1 by omega) (show (1280 + x1.val) / 128 = 10 by omega)
  · exact deq_close b0 b1 hg z (off10 t 1) h0 h1 (show (128 + x0.val) / 128 = 1 by omega) (show (1152 + x1.val) / 128 = 9 by omega)
  · exact deq_close b0 b1 hg z (off9 t 1) h0 h1 (show (128 + x0.val) / 128 = 1 by omega) (show (1024 + x1.val) / 128 = 8 by omega)
  · exact deq_close b0 b1 hg z (off8 t 1) h0 h1 (show (128 + x0.val) / 128 = 1 by omega) (show (896 + x1.val) / 128 = 7 by omega)
  · exact deq_close b0 b1 hg z (off7 t 1) h0 h1 (show (128 + x0.val) / 128 = 1 by omega) (show (768 + x1.val) / 128 = 6 by omega)
  · exact deq_close b0 b1 hg z (off6 t 1) h0 h1 (show (128 + x0.val) / 128 = 1 by omega) (show (640 + x1.val) / 128 = 5 by omega)
  · exact deq_close b0 b1 hg z (off5 t 1) h0 h1 (show (128 + x0.val) / 128 = 1 by omega) (show (512 + x1.val) / 128 = 4 by omega)
  · exact deq_close b0 b1 hg z (off4 t 1) h0 h1 (show (128 + x0.val) / 128 = 1 by omega) (show (384 + x1.val) / 128 = 3 by omega)
  · exact deq_close b0 b1 hg z (off3 t 1) h0 h1 (show (128 + x0.val) / 128 = 1 by omega) (show (256 + x1.val) / 128 = 2 by omega)
  · exact deq_close b0 b1 hg z (off2 t 1) h0 h1 (show (128 + x0.val) / 128 = 1 by omega) (show (128 + x1.val) / 128 = 1 by omega)
  · exact deq_close b0 b1 hg z (off1 t 1) h0 h1 (show (128 + x0.val) / 128 = 1 by omega) (show x1.val / 128 = 0 by omega)
  · exact deq_close b0 b1 hg z (off64 t 0) h0 h1 (show x0.val / 128 = 0 by omega) (show (8064 + x1.val) / 128 = 63 by omega)
  · exact deq_close b0 b1 hg z (off63 t 0) h0 h1 (show x0.val / 128 = 0 by omega) (show (7936 + x1.val) / 128 = 62 by omega)
  · exact deq_close b0 b1 hg z (off62 t 0) h0 h1 (show x0.val / 128 = 0 by omega) (show (7808 + x1.val) / 128 = 61 by omega)
  · exact deq_close b0 b1 hg z (off61 t 0) h0 h1 (show x0.val / 128 = 0 by omega) (show (7680 + x1.val) / 128 = 60 by omega)
  · exact deq_close b0 b1 hg z (off60 t 0) h0 h1 (show x0.val / 128 = 0 by omega) (show (7552 + x1.val) / 128 = 59 by omega)
  · exact deq_close b0 b1 hg z (off59 t 0) h0 h1 (show x0.val / 128 = 0 by omega) (show (7424 + x1.val) / 128 = 58 by omega)
  · exact deq_close b0 b1 hg z (off58 t 0) h0 h1 (show x0.val / 128 = 0 by omega) (show (7296 + x1.val) / 128 = 57 by omega)
  · exact deq_close b0 b1 hg z (off57 t 0) h0 h1 (show x0.val / 128 = 0 by omega) (show (7168 + x1.val) / 128 = 56 by omega)
  · exact deq_close b0 b1 hg z (off56 t 0) h0 h1 (show x0.val / 128 = 0 by omega) (show (7040 + x1.val) / 128 = 55 by omega)
  · exact deq_close b0 b1 hg z (off55 t 0) h0 h1 (show x0.val / 128 = 0 by omega) (show (6912 + x1.val) / 128 = 54 by omega)
  · exact deq_close b0 b1 hg z (off54 t 0) h0 h1 (show x0.val / 128 = 0 by omega) (show (6784 + x1.val) / 128 = 53 by omega)
  · exact deq_close b0 b1 hg z (off53 t 0) h0 h1 (show x0.val / 128 = 0 by omega) (show (6656 + x1.val) / 128 = 52 by omega)
  · exact deq_close b0 b1 hg z (off52 t 0) h0 h1 (show x0.val / 128 = 0 by omega) (show (6528 + x1.val) / 128 = 51 by omega)
  · exact deq_close b0 b1 hg z (off51 t 0) h0 h1 (show x0.val / 128 = 0 by omega) (show (6400 + x1.val) / 128 = 50 by omega)
  · exact deq_close b0 b1 hg z (off50 t 0) h0 h1 (show x0.val / 128 = 0 by omega) (show (6272 + x1.val) / 128 = 49 by omega)
  · exact deq_close b0 b1 hg z (off49 t 0) h0 h1 (show x0.val / 128 = 0 by omega) (show (6144 + x1.val) / 128 = 48 by omega)
  · exact deq_close b0 b1 hg z (off48 t 0) h0 h1 (show x0.val / 128 = 0 by omega) (show (6016 + x1.val) / 128 = 47 by omega)
  · exact deq_close b0 b1 hg z (off47 t 0) h0 h1 (show x0.val / 128 = 0 by omega) (show (5888 + x1.val) / 128 = 46 by omega)
  · exact deq_close b0 b1 hg z (off46 t 0) h0 h1 (show x0.val / 128 = 0 by omega) (show (5760 + x1.val) / 128 = 45 by omega)
  · exact deq_close b0 b1 hg z (off45 t 0) h0 h1 (show x0.val / 128 = 0 by omega) (show (5632 + x1.val) / 128 = 44 by omega)
  · exact deq_close b0 b1 hg z (off44 t 0) h0 h1 (show x0.val / 128 = 0 by omega) (show (5504 + x1.val) / 128 = 43 by omega)
  · exact deq_close b0 b1 hg z (off43 t 0) h0 h1 (show x0.val / 128 = 0 by omega) (show (5376 + x1.val) / 128 = 42 by omega)
  · exact deq_close b0 b1 hg z (off42 t 0) h0 h1 (show x0.val / 128 = 0 by omega) (show (5248 + x1.val) / 128 = 41 by omega)
  · exact deq_close b0 b1 hg z (off41 t 0) h0 h1 (show x0.val / 128 = 0 by omega) (show (5120 + x1.val) / 128 = 40 by omega)
  · exact deq_close b0 b1 hg z (off40 t 0) h0 h1 (show x0.val / 128 = 0 by omega) (show (4992 + x1.val) / 128 = 39 by omega)
  · exact deq_close b0 b1 hg z (off39 t 0) h0 h1 (show x0.val / 128 = 0 by omega) (show (4864 + x1.val) / 128 = 38 by omega)
  · exact deq_close b0 b1 hg z (off38 t 0) h0 h1 (show x0.val / 128 = 0 by omega) (show (4736 + x1.val) / 128 = 37 by omega)
  · exact deq_close b0 b1 hg z (off37 t 0) h0 h1 (show x0.val / 128 = 0 by omega) (show (4608 + x1.val) / 128 = 36 by omega)
  · exact deq_close b0 b1 hg z (off36 t 0) h0 h1 (show x0.val / 128 = 0 by omega) (show (4480 + x1.val) / 128 = 35 by omega)
  · exact deq_close b0 b1 hg z (off35 t 0) h0 h1 (show x0.val / 128 = 0 by omega) (show (4352 + x1.val) / 128 = 34 by omega)
  · exact deq_close b0 b1 hg z (off34 t 0) h0 h1 (show x0.val / 128 = 0 by omega) (show (4224 + x1.val) / 128 = 33 by omega)
  · exact deq_close b0 b1 hg z (off33 t 0) h0 h1 (show x0.val / 128 = 0 by omega) (show (4096 + x1.val) / 128 = 32 by omega)
  · exact deq_close b0 b1 hg z (off32 t 0) h0 h1 (show x0.val / 128 = 0 by omega) (show (3968 + x1.val) / 128 = 31 by omega)
  · exact deq_close b0 b1 hg z (off31 t 0) h0 h1 (show x0.val / 128 = 0 by omega) (show (3840 + x1.val) / 128 = 30 by omega)
  · exact deq_close b0 b1 hg z (off30 t 0) h0 h1 (show x0.val / 128 = 0 by omega) (show (3712 + x1.val) / 128 = 29 by omega)
  · exact deq_close b0 b1 hg z (off29 t 0) h0 h1 (show x0.val / 128 = 0 by omega) (show (3584 + x1.val) / 128 = 28 by omega)
  · exact deq_close b0 b1 hg z (off28 t 0) h0 h1 (show x0.val / 128 = 0 by omega) (show (3456 + x1.val) / 128 = 27 by omega)
  · exact deq_close b0 b1 hg z (off27 t 0) h0 h1 (show x0.val / 128 = 0 by omega) (show (3328 + x1.val) / 128 = 26 by omega)
  · exact deq_close b0 b1 hg z (off26 t 0) h0 h1 (show x0.val / 128 = 0 by omega) (show (3200 + x1.val) / 128 = 25 by omega)
  · exact deq_close b0 b1 hg z (off25 t 0) h0 h1 (show x0.val / 128 = 0 by omega) (show (3072 + x1.val) / 128 = 24 by omega)
  · exact deq_close b0 b1 hg z (off24 t 0) h0 h1 (show x0.val / 128 = 0 by omega) (show (2944 + x1.val) / 128 = 23 by omega)
  · exact deq_close b0 b1 hg z (off23 t 0) h0 h1 (show x0.val / 128 = 0 by omega) (show (2816 + x1.val) / 128 = 22 by omega)
  · exact deq_close b0 b1 hg z (off22 t 0) h0 h1 (show x0.val / 128 = 0 by omega) (show (2688 + x1.val) / 128 = 21 by omega)
  · exact deq_close b0 b1 hg z (off21 t 0) h0 h1 (show x0.val / 128 = 0 by omega) (show (2560 + x1.val) / 128 = 20 by omega)
  · exact deq_close b0 b1 hg z (off20 t 0) h0 h1 (show x0.val / 128 = 0 by omega) (show (2432 + x1.val) / 128 = 19 by omega)
  · exact deq_close b0 b1 hg z (off19 t 0) h0 h1 (show x0.val / 128 = 0 by omega) (show (2304 + x1.val) / 128 = 18 by omega)
  · exact deq_close b0 b1 hg z (off18 t 0) h0 h1 (show x0.val / 128 = 0 by omega) (show (2176 + x1.val) / 128 = 17 by omega)
  · exact deq_close b0 b1 hg z (off17 t 0) h0 h1 (show x0.val / 128 = 0 by omega) (show (2048 + x1.val) / 128 = 16 by omega)
  · exact deq_close b0 b1 hg z (off16 t 0) h0 h1 (show x0.val / 128 = 0 by omega) (show (1920 + x1.val) / 128 = 15 by omega)
  · exact deq_close b0 b1 hg z (off15 t 0) h0 h1 (show x0.val / 128 = 0 by omega) (show (1792 + x1.val) / 128 = 14 by omega)
  · exact deq_close b0 b1 hg z (off14 t 0) h0 h1 (show x0.val / 128 = 0 by omega) (show (1664 + x1.val) / 128 = 13 by omega)
  · exact deq_close b0 b1 hg z (off13 t 0) h0 h1 (show x0.val / 128 = 0 by omega) (show (1536 + x1.val) / 128 = 12 by omega)
  · exact deq_close b0 b1 hg z (off12 t 0) h0 h1 (show x0.val / 128 = 0 by omega) (show (1408 + x1.val) / 128 = 11 by omega)
  · exact deq_close b0 b1 hg z (off11 t 0) h0 h1 (show x0.val / 128 = 0 by omega) (show (1280 + x1.val) / 128 = 10 by omega)
  · exact deq_close b0 b1 hg z (off10 t 0) h0 h1 (show x0.val / 128 = 0 by omega) (show (1152 + x1.val) / 128 = 9 by omega)
  · exact deq_close b0 b1 hg z (off9 t 0) h0 h1 (show x0.val / 128 = 0 by omega) (show (1024 + x1.val) / 128 = 8 by omega)
  · exact deq_close b0 b1 hg z (off8 t 0) h0 h1 (show x0.val / 128 = 0 by omega) (show (896 + x1.val) / 128 = 7 by omega)
  · exact deq_close b0 b1 hg z (off7 t 0) h0 h1 (show x0.val / 128 = 0 by omega) (show (768 + x1.val) / 128 = 6 by omega)
  · exact deq_close b0 b1 hg z (off6 t 0) h0 h1 (show x0.val / 128 = 0 by omega) (show (640 + x1.val) / 128 = 5 by omega)
  · exact deq_close b0 b1 hg z (off5 t 0) h0 h1 (show x0.val / 128 = 0 by omega) (show (512 + x1.val) / 128 = 4 by omega)
  · exact deq_close b0 b1 hg z (off4 t 0) h0 h1 (show x0.val / 128 = 0 by omega) (show (384 + x1.val) / 128 = 3 by omega)
  · exact deq_close b0 b1 hg z (off3 t 0) h0 h1 (show x0.val / 128 = 0 by omega) (show (256 + x1.val) / 128 = 2 by omega)
  · exact deq_close b0 b1 hg z (off2 t 0) h0 h1 (show x0.val / 128 = 0 by omega) (show (128 + x1.val) / 128 = 1 by omega)
  · exact deq_close b0 b1 hg z (off1 t 0) h0 h1 (show x0.val / 128 = 0 by omega) (show x1.val / 128 = 0 by omega)

theorem idx : ∀ t : Fin grid0.N, win0_0.index t = ![0, 0] ∧ win0_1.index t = ![t.val, 0] ∧ win0_2.index t = ![t.val, 0] := by
  decide +kernel

/-- The dequantised weight at row `r` and column `k`: the code times the scale of its block. -/
def deq (w : Vec Ideal S1024x8192 .fp8e4m3) (s : Vec Ideal S8x64 .f32) (r : Fin 1024) (k : Fin 8192) : EReal :=
  (w (ix2 r k) : EReal) * (s (ix2 ⟨r.val / 128, by omega⟩ ⟨k.val / 128, by omega⟩) : EReal)

/-- The dequantised weight. -/
def F2 (w : Vec Ideal S1024x8192 .fp8e4m3) (s : Vec Ideal S8x64 .f32) : Vec Ideal S1024x8192 .bf16 := fun y => deq w s (y 0) (y 1)

/-- The argument arrays. -/
abbrev A0 (c : Dev nD) : Vec Ideal S1024x8192 .fp8e4m3 := m ((c : Thread nD τ).loc main_arg0)
abbrev A1 (c : Dev nD) : Vec Ideal S8x64 .f32 := m ((c : Thread nD τ).loc main_arg1)

theorem in0 (c : Dev nD) (t : Fin cfg0.N) : (iblk m c 0 t : Vec Ideal S8x64 .f32) = A1 m c := by
  funext y
  blk_simp [iblk]
  have e : (win0_0.blk t).view.emb y = y := by
    blk_ext [(idx t).1]
  rw [e, V_main_arg1]

theorem in1 (c : Dev nD) (t : Fin cfg0.N) (r : Fin 256) (k : Fin 8192) (z : Fin 1024) (hz : z.val = t.val * 256 + r.val) :
    (iblk m c 1 t : Vec Ideal S256x8192 .fp8e4m3) (ix2 r k) = A0 m c (ix2 z k) := by
  blk_simp [iblk]
  have e : (win0_1.blk t).view.emb (ix2 r k) = (ix2 z k : S1024x8192.Idx) := by
    blk_ext [(idx t).2.1]
  rw [e, V_main_arg0]

theorem deqAt_eq {b0 : Vec Ideal S8x64 .f32} {b1 : Vec Ideal S256x8192 .fp8e4m3} {w : Vec Ideal S1024x8192 .fp8e4m3} {s : Vec Ideal S8x64 .f32}
    {g : Fin 4} {r : Fin 256} {k : Fin 8192} {z : Fin 1024} (hs : b0 = s) (hw : b1 (ix2 r k) = w (ix2 z k)) (hz : z.val = g.val * 256 + r.val) :
    deqAt b0 b1 g r k = deq w s z k := by
  unfold deqAt deq
  have e : (⟨g.val * 2 + r.val / 128, by omega⟩ : Fin 8) = ⟨z.val / 128, by omega⟩ :=
    Fin.ext (by show g.val * 2 + r.val / 128 = z.val / 128; omega)
  rw [hs, hw, e]

/-- The result of the kernel's run. -/
theorem final2 (c : Dev nD) : (dats m 0 c).arrAt 2 cfg0.N = F2 (A0 m c) (A1 m c) := by
  refine (dats m 0 c).arrAt_eq_of_covers 2 _ (by decide +kernel) fun t hf y => ?_
  blk_simp
  rw [after0_2]
  change S256x8192.Idx at y
  idx_vars y
  have ht : t.val < 4 := t.isLt
  have e : (win0_2.blk t).view.emb (ix2 y0 y1) = (ix2 ⟨t.val * 256 + y0.val, by omega⟩ y1 : S1024x8192.Idx) := by
    blk_ext [(idx t).2.2]
  refine (out_at m c t ⟨t.val, ht⟩ rfl (ix2 y0 y1)).trans ?_
  refine (deqAt_eq (in0 m c t) (in1 m c t y0 y1 ⟨t.val * 256 + y0.val, by omega⟩ rfl) rfl).trans ?_
  exact (congrArg (F2 (A0 m c) (A1 m c)) e).symm

/-! ## The reference -/

theorem ref_at (w : Vec Ideal S1024x8192 .fp8e4m3) (s : Vec Ideal S8x64 .f32) (r : Fin 1024) (k : Fin 8192) :
    (Cert.DequantWoRefIdeal.Gen.k0_pay1 w s (ix2 r k) : EReal) = deq w s r k := by
  pointwise [Cert.DequantWoRefIdeal.Gen.k0_pay1, deq]

theorem results (c : Dev nD) : Cert.DequantWoRefIdeal.Value.G2 (A0 m c) (A1 m c) = F2 (A0 m c) (A1 m c) := by
  funext y
  idx_vars y
  exact ref_at _ _ y0 y1

theorem algebraic : Cert.algebraic_DequantWoIdeal_DequantWoRefIdeal := by
  intro m g m' g' _ hagree
  refine ⟨fun c => F2 (A0 m c) (A1 m c), ?_, ?_⟩
  · refine (θ_run _ _ _).mono (fun r h c => ?_) (Cert.DequantWoIdeal.Value.run_blocks m g)
    obtain ⟨h2, h⟩ := h c
    exact ⟨h2.trans (final2 m c), h⟩
  · refine (θ_run _ _ _).mono (fun r h c => ?_) (Cert.DequantWoRefIdeal.Value.run m' g')
    obtain ⟨h2, h⟩ := h c
    obtain ⟨a0, a1⟩ := hagree c
    rw [a0, a1] at h2
    exact ⟨h2.trans (results m c), h⟩

end Cert.DequantWoIdeal.Deq

end
-- ==== Proof.OutRow.lean ====
/-
  The mathematics of one row of one head in the output step, on plain functions of the column: the denominator, the
  logarithm of the summed exponentials, the merge with the running result, and the quantisation with a power of two.
-/
module

public import Idealize.ShloMosaic.Lib.Pointwise
public import Idealize.ShloMosaic.Lib.IdealHost

@[expose] public section

noncomputable section

open Idealize.ShloMosaic

namespace Cert.OutRow

/-- The row's denominator, one where the sum is not positive. -/
def den (d : Fin 8 → EReal) : EReal := if 0 < ∑ i, d i then ∑ i, d i else 1

/-- The step's logarithm of summed exponentials, from the sums and the row's maximum in base two. -/
def lseStep (d : Fin 8 → EReal) (mx : EReal) : EReal :=
  if 0 < ∑ i, d i then (mx + Ideal.div (Ideal.log (den d)) (Ideal.ofBits .f32 1060205080#32)) * Ideal.ofBits .f32 1060205080#32
  else Ideal.ofBits .f32 4286578688#32

/-- The logarithm of the sum of two exponentials. -/
def logaddexp (a b : EReal) : EReal :=
  max a b + Ideal.log1p (Ideal.exp (0 - FloatOps.absf (F := Ideal) (φ := .f32) (a - b)))

/-- The merged logarithm of summed exponentials. -/
def lse (d : Fin 8 → EReal) (mx run : EReal) : EReal := logaddexp run (lseStep d mx)

/-- The merged row: the running result and the step's, each by its weight. -/
def out (d : Fin 8 → EReal) (mx run : EReal) (ac o : Fin 128 → EReal) (k : Fin 128) : EReal :=
  o k * Ideal.exp (run - lse d mx run) + Ideal.div (ac k) (den d) * Ideal.exp (lseStep d mx - lse d mx run)

/-- The largest magnitude of a row over 448. -/
def ratio (R : Fin 128 → EReal) : EReal :=
  Finset.fold max (Ideal.ofBits .f32 4286578688#32) (fun x => FloatOps.absf (F := Ideal) (φ := .f32) (R x)) Finset.univ
    * Ideal.ofBits .f32 991054117#32

/-- The table's powers of two. -/
def pow (k : Fin 256) : EReal := Ideal.exp2 (Scalar.sitofp (F := Ideal) .f32 (IntOp.subi (BitVec.ofNat 32 k.val) 127#32))

/-- The largest power of two of the table not above `f`. -/
def below (f : EReal) : EReal :=
  Finset.fold max (Ideal.ofBits .f32 4286578688#32) (fun k => if pow k ≤ f then pow k else Ideal.ofBits .f32 4194304#32) Finset.univ

/-- The row's scale: one for a row of zeros, the next power of two otherwise. -/
def scl (R : Fin 128 → EReal) : EReal := if ratio R = 0 then 1 else Ideal.ofBits .f32 1073741824#32 * below (ratio R)

/-- The row's code: the entry over the scale, clipped to ±448. -/
def code (R : Fin 128 → EReal) (k : Fin 128) : EReal :=
  min (Ideal.ofBits .f32 1138753536#32) (max (Ideal.ofBits .f32 3286237184#32) (R k * Ideal.div 1 (scl R)))

/-- The exponent's power: one half for a row of zeros. -/
def expo (R : Fin 128 → EReal) : EReal := if ratio R = 0 then Ideal.ofBits .f32 1056964608#32 else below (ratio R)

theorem half : Ideal.ofBits .f32 1056964608#32 = ((1 / 2 : ℝ) : EReal) := by
  simp [Ideal.ofBits, Ideal.ieee, -EReal.coe_mul]; norm_num

theorem two : Ideal.ofBits .f32 1073741824#32 = ((2 : ℝ) : EReal) := by
  simp [Ideal.ofBits, Ideal.ieee, -EReal.coe_mul]; norm_num

/-- The scale is twice the exponent's power. -/
theorem expo_two (R : Fin 128 → EReal) : expo R * Ideal.ofBits .f32 1073741824#32 = scl R := by
  unfold expo scl
  split
  · rw [half, two, ← EReal.coe_mul]
    norm_num
  · exact mul_comm _ _

theorem half_div (e : EReal) : Ideal.div (Ideal.ofBits .f32 1056964608#32) e = Ideal.div 1 (e * Ideal.ofBits .f32 1073741824#32) := by
  rw [half, two]
  induction e using EReal.rec with
  | bot =>
    rw [EReal.bot_mul_coe_of_pos (by norm_num)]
    simp [Ideal.div]
  | top =>
    rw [EReal.top_mul_coe_of_pos (by norm_num)]
    simp [Ideal.div]
  | coe r =>
    rw [← EReal.coe_mul]
    unfold Ideal.div
    by_cases h : r = 0
    · subst h
      simp
    · have h2 : r * 2 ≠ 0 := mul_ne_zero h (by norm_num)
      rw [if_neg (by exact_mod_cast h), if_neg (by exact_mod_cast h2), one_mul, ← EReal.coe_inv, ← EReal.coe_inv, ← EReal.coe_mul]
      congr 1
      field_simp

/-- The reciprocal of the scale is half the exponent's reciprocal. -/
theorem half_expo (R : Fin 128 → EReal) : Ideal.div (Ideal.ofBits .f32 1056964608#32) (expo R) = Ideal.div 1 (scl R) := by
  rw [half_div, expo_two]

end Cert.OutRow

end
-- ==== Proof.OutHead.lean ====
/-
  The output step's eight heads: each head's merged row, scale, codes and dequantised codes are the row functions of
  `Proof/OutRow.lean`.
-/
module

public import proofs.«01_k».proof.Proof.OutRow
public import proofs.«01_k».proof.Proof.Gen.AttnOutIdeal.Skeleton
public import Idealize.ShloMosaic.Lib.Pointwise

@[expose] public section

set_option maxRecDepth 16384

noncomputable section

open Idealize.ShloMosaic Idealize.ShloMosaic.TcCoe

namespace Cert.AttnOutIdeal.Head

open Cert.AttnOutIdeal Cert.AttnOutIdeal.Gen

variable (O : FVec Ideal S256x128 .f32)

/-- The rows' exponents, scales, codes and dequantised codes, from the merged rows. -/
abbrev expB : FVec Ideal S256x1 .f32 := k0_pay30 (absf O)
abbrev sclB : FVec Ideal S256x1 .f32 := k0_pay31 (absf O)
abbrev codeB : FVec Ideal S256x128 .fp8e4m3 := k0_pay32 O (absf O)
abbrev obB : FVec Ideal S256x128 .bf16 := k0_pay33 O (absf O)

theorem ratio_at (r : Fin 256) (j : Fin 1) :
    mulf (shapeCast S256x1 (multiReduction .maximumf [1] S256 (absf O) 0xFF800000#32 reduces_S256x128_S256 (.inl rfl) rfl) shapeCasts_S256_S256x1)
      (broadcast S256x1 (Scalar.ofBits .f32 0x3B124925#32)) (ix2 r j) = OutRow.ratio (fun k => O (ix2 r k)) := by
  unfold OutRow.ratio
  pointwise

theorem exp_of (f : FVec Ideal S256x1 .f32) (r : Fin 256) (j : Fin 1) :
    select (cmpf .oeq f (broadcast S256x1 (Scalar.ofBits .f32 0x00000000#32))) (broadcast S256x1 (Scalar.ofBits .f32 0x3F000000#32))
      (shapeCast S256x1 (multiReduction .maximumf [1] S256
        (select (cmpf .ole (exp2 (sitofp .f32 (subi (iota .tc S256x256 32 [1] iota_S256x256_d1_w32) (broadcast S256x256 127#32))))
          (broadcastTo S256x256 f broadcasts_S256x1_S256x256))
          (exp2 (sitofp .f32 (subi (iota .tc S256x256 32 [1] iota_S256x256_d1_w32) (broadcast S256x256 127#32))))
          (broadcast S256x256 (Scalar.ofBits .f32 0x00400000#32))) 0xFF800000#32 reduces_S256x256_S256 (.inl rfl) rfl) shapeCasts_S256_S256x1) (ix2 r j)
      = if f (ix2 r 0) = 0 then Ideal.ofBits .f32 1056964608#32 else OutRow.below (f (ix2 r 0)) := by
  obtain rfl : j = 0 := Subsingleton.elim _ _
  unfold OutRow.below OutRow.pow
  pointwise
  rfl

theorem exp_at (r : Fin 256) (j : Fin 1) : expB O (ix2 r j) = OutRow.expo (fun k => O (ix2 r k)) := by
  unfold OutRow.expo
  rw [← ratio_at O r 0]
  exact exp_of _ r j

theorem scl_at (r : Fin 256) (j : Fin 1) : sclB O (ix2 r j) = OutRow.scl (fun k => O (ix2 r k)) := by
  rw [← OutRow.expo_two, ← exp_at O r j]
  unfold sclB k0_pay31 expB
  generalize k0_pay30 (absf O) = E
  pointwise

theorem code_at (r : Fin 256) (k : Fin 128) : (codeB O (ix2 r k) : EReal) = OutRow.code (fun k => O (ix2 r k)) k := by
  unfold OutRow.code
  rw [← OutRow.half_expo, ← exp_at O r 0]
  unfold codeB k0_pay32 expB
  generalize k0_pay30 (absf O) = E
  pointwise

theorem ob_at (r : Fin 256) (k : Fin 128) :
    (obB O (ix2 r k) : EReal) = OutRow.code (fun k => O (ix2 r k)) k * OutRow.scl (fun k => O (ix2 r k)) := by
  rw [← code_at, ← scl_at O r 0]
  unfold obB k0_pay33 codeB sclB
  generalize k0_pay32 O (absf O) = C
  generalize k0_pay31 (absf O) = S
  pointwise

/-! ## The merged rows of each head -/

section Rows

variable (d w : FVec Ideal S8x256 .f32) (q : FVec Ideal S256x128 .f32) (a : Vec Ideal S1x1x128x256 .f32) (o : Vec Ideal S256x1x128 .f32)

/-- A head's merged entry from the denominators, the two weights, the accumulator and the running result. -/
def mrg (h : Fin 8) (r : Fin 256) (k : Fin 128) : EReal :=
  o (ix3 r 0 k) * q (ix2 r ⟨h.val, by omega⟩) + Ideal.div (a (ix4 0 0 k r)) (d (ix2 h r)) * w (ix2 h r)

abbrev row0 (l run lse : FVec Ideal S8x256 .f32) : FVec Ideal S256x128 .f32 := k0_pay18 d l run lse a o
abbrev row1 : FVec Ideal S256x128 .f32 := k0_pay28 d w q a o
abbrev row2 : FVec Ideal S256x128 .f32 := k0_pay37 d w q a o
abbrev row3 : FVec Ideal S256x128 .f32 := k0_pay44 d w q a o
abbrev row4 : FVec Ideal S256x128 .f32 := k0_pay54 w q (k0_pay52 a) (k0_pay53 d) o
abbrev row5 : FVec Ideal S256x128 .f32 := k0_pay60 d w q a o
abbrev row6 : FVec Ideal S256x128 .f32 := k0_pay71 (k0_pay68 d w a) (k0_pay69 o) (k0_pay70 q)
abbrev row7 : FVec Ideal S256x128 .f32 := k0_pay77 d w q a o

variable (r : Fin 256) (k : Fin 128)

theorem row0_at (l run lse : FVec Ideal S8x256 .f32) :
    row0 d a o l run lse (ix2 r k) = mrg d (k0_pay15 l lse) (k0_pay16 run lse) a o 0 r k := by
  unfold row0 mrg k0_pay18
  generalize k0_pay15 l lse = w
  generalize k0_pay16 run lse = q
  pointwise
  try rfl
theorem row1_at : row1 d w q a o (ix2 r k) = mrg d w q a o 1 r k := by
  unfold mrg; pointwise [k0_pay28]; try rfl
theorem row2_at : row2 d w q a o (ix2 r k) = mrg d w q a o 2 r k := by
  unfold mrg; pointwise [k0_pay37]; try rfl
theorem row3_at : row3 d w q a o (ix2 r k) = mrg d w q a o 3 r k := by
  unfold mrg; pointwise [k0_pay44]; try rfl
theorem row4_at : row4 d w q a o (ix2 r k) = mrg d w q a o 4 r k := by
  unfold mrg; pointwise [k0_pay54, k0_pay52, k0_pay53]; try rfl
theorem row5_at : row5 d w q a o (ix2 r k) = mrg d w q a o 5 r k := by
  unfold mrg; pointwise [k0_pay60]; try rfl
theorem row6_at : row6 d w q a o (ix2 r k) = mrg d w q a o 6 r k := by
  unfold mrg; pointwise [k0_pay71, k0_pay68, k0_pay69, k0_pay70]; try rfl
theorem row7_at : row7 d w q a o (ix2 r k) = mrg d w q a o 7 r k := by
  unfold mrg; pointwise [k0_pay77]; try rfl

/-! ## The heads' codes, scales and dequantised codes in the kernel's words -/

/-- A head's scale at the head's lane. -/
abbrev selB (n : BitVec 32) (X : FVec Ideal S256x128 .f32) (S : FVec Ideal S256x1 .f32) : FVec Ideal S256x128 .f32 :=
  select (cmpi .eq (iota .tc S256x128 32 [1] iota_S256x128_d1_w32) (broadcast S256x128 n))
    (broadcastTo S256x128 (shapeCast S256x1 S shapeCasts_S256x1_S256x1) broadcasts_S256x1_S256x128) X

variable (l run lse : FVec Ideal S8x256 .f32) (X : FVec Ideal S256x128 .f32)

theorem code0 : k0_pay25 (k0_pay18 d l run lse a o) (k0_pay20 d l run lse a o) (k0_pay21 d l run lse a o) k0_pay22 = codeB (row0 d a o l run lse) := rfl
theorem code1 : k0_pay32 (k0_pay28 d w q a o) (k0_pay29 d w q a o) = codeB (row1 d w q a o) := rfl
theorem code2 : k0_pay41 (k0_pay40 d w q a o) (FloatOps.ofBits .f32 3286237184#32) = codeB (row2 d w q a o) := rfl
theorem code3 : k0_pay49 (k0_pay44 d w q a o) (k0_pay45 d w q a o) k0_pay46 = codeB (row3 d w q a o) := rfl
theorem code4 : k0_pay57 w q (k0_pay52 a) (k0_pay53 d) o = codeB (row4 d w q a o) := rfl
theorem code5 : k0_pay65 (k0_pay60 d w q a o) (k0_pay61 d w q a o) (k0_pay62 d w q a o) = codeB (row5 d w q a o) := rfl
theorem code6 : k0_pay74 (k0_pay68 d w a) (k0_pay69 o) (k0_pay70 q) = codeB (row6 d w q a o) := rfl
theorem code7 : k0_pay80 (k0_pay77 d w q a o) (k0_pay78 d w q a o) (FloatOps.ofBits .f32 1056964608#32) = codeB (row7 d w q a o) := rfl

theorem ob0 : k0_pay26 (k0_pay18 d l run lse a o) (k0_pay20 d l run lse a o) (k0_pay21 d l run lse a o) k0_pay22 = obB (row0 d a o l run lse) := rfl
theorem ob1 : k0_pay33 (k0_pay28 d w q a o) (k0_pay29 d w q a o) = obB (row1 d w q a o) := rfl
theorem ob2 : k0_pay42 (k0_pay39 d w q a o) (k0_pay40 d w q a o) (FloatOps.ofBits .f32 3286237184#32) = obB (row2 d w q a o) := rfl
theorem ob3 : k0_pay50 (k0_pay44 d w q a o) (k0_pay45 d w q a o) k0_pay46 = obB (row3 d w q a o) := rfl
theorem ob4 : k0_pay58 (k0_pay56 w q (k0_pay52 a) (k0_pay53 d) o) (k0_pay57 w q (k0_pay52 a) (k0_pay53 d) o) = obB (row4 d w q a o) := rfl
theorem ob5 : k0_pay66 (k0_pay60 d w q a o) (k0_pay61 d w q a o) (k0_pay62 d w q a o) = obB (row5 d w q a o) := rfl
theorem ob6 : k0_pay75 (k0_pay68 d w a) (k0_pay69 o) (k0_pay70 q) = obB (row6 d w q a o) := rfl
theorem ob7 : k0_pay81 (k0_pay77 d w q a o) (k0_pay78 d w q a o) (k0_pay79 d w q a o) (FloatOps.ofBits .f32 1056964608#32) = obB (row7 d w q a o) := rfl

theorem sel0 : k0_pay27 (iota .tc S256x128 32 [1] iota_S256x128_d1_w32) X (k0_pay20 d l run lse a o) (k0_pay21 d l run lse a o) k0_pay22
    = selB 0#32 X (sclB (row0 d a o l run lse)) := rfl
theorem sel1 : k0_pay36 X (k0_pay34 (iota .tc S256x128 32 [1] iota_S256x128_d1_w32)) (k0_pay35 (k0_pay29 d w q a o))
    = selB 1#32 X (sclB (row1 d w q a o)) := rfl
theorem sel2 : k0_pay43 (iota .tc S256x128 32 [1] iota_S256x128_d1_w32) X (k0_pay39 d w q a o) = selB 2#32 X (sclB (row2 d w q a o)) := rfl
theorem sel3 : k0_pay51 (iota .tc S256x128 32 [1] iota_S256x128_d1_w32) X (k0_pay45 d w q a o) k0_pay46 = selB 3#32 X (sclB (row3 d w q a o)) := rfl
theorem sel4 : k0_pay59 (iota .tc S256x128 32 [1] iota_S256x128_d1_w32) X (k0_pay56 w q (k0_pay52 a) (k0_pay53 d) o) = selB 4#32 X (sclB (row4 d w q a o)) := rfl
theorem sel5 : k0_pay67 (iota .tc S256x128 32 [1] iota_S256x128_d1_w32) X (k0_pay61 d w q a o) (k0_pay62 d w q a o) = selB 5#32 X (sclB (row5 d w q a o)) := rfl
theorem sel6 : k0_pay76 (iota .tc S256x128 32 [1] iota_S256x128_d1_w32) X (k0_pay73 (k0_pay68 d w a) (k0_pay69 o) (k0_pay70 q)) = selB 6#32 X (sclB (row6 d w q a o)) := rfl
theorem sel7 : k0_pay82 (iota .tc S256x128 32 [1] iota_S256x128_d1_w32) X (k0_pay79 d w q a o)
    = extractStridedSlice S256x8 ![0, 0] (selB 7#32 X (sclB (row7 d w q a o))) slices_S256x128_o0_0_S256x8 := rfl

end Rows

end Cert.AttnOutIdeal.Head

end
-- ==== Proof.OutBlock.lean ====
/-
  The output step's blocks as functions of the input blocks: the four output blocks a grid point writes.
-/
module

public import proofs.«01_k».proof.Proof.OutHead
public import proofs.«01_k».proof.Proof.Gen.AttnOutIdeal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.AttnOutIdeal.Block

open Cert.AttnOutIdeal Cert.AttnOutIdeal.Gen Cert.AttnOutIdeal.Head

variable (b0 : Vec Ideal S1x8x128x256 .f32) (b1 : Vec Ideal S1x8x8x256 .f32) (b2 : Vec Ideal S1x8x256 .f32)
  (b3 : Vec Ideal S256x8x128 .f32) (b4 : Vec Ideal S1x8x256 .f32)

/-! ## The denominators and the weights of a block -/

/-- The sums of the denominators' eight parts. -/
def sm : FVec Ideal S8x256 .f32 :=
  k0_pay8 (k0_pay2 (View.ld b1 (Rect.unit ![0, 0, 0, 0] ![1, 1, 8, 256] inb_S1x8x8x256_S1x1x8x256_0_0_0_0)))
    (k0_pay3 (View.ld b1 (Rect.unit ![0, 1, 0, 0] ![1, 1, 8, 256] inb_S1x8x8x256_S1x1x8x256_0_1_0_0)))
    (k0_pay4 (View.ld b1 (Rect.unit ![0, 2, 0, 0] ![1, 1, 8, 256] inb_S1x8x8x256_S1x1x8x256_0_2_0_0)))
    (k0_pay5 (View.ld b1 (Rect.unit ![0, 3, 0, 0] ![1, 1, 8, 256] inb_S1x8x8x256_S1x1x8x256_0_3_0_0)))
    (k0_pay6 (View.ld b1 (Rect.unit ![0, 4, 0, 0] ![1, 1, 8, 256] inb_S1x8x8x256_S1x1x8x256_0_4_0_0)))
    (k0_pay7 (View.ld b1 (Rect.unit ![0, 5, 0, 0] ![1, 1, 8, 256] inb_S1x8x8x256_S1x1x8x256_0_5_0_0)))
    (View.ld b1 (Rect.unit ![0, 6, 0, 0] ![1, 1, 8, 256] inb_S1x8x8x256_S1x1x8x256_0_6_0_0))
    (View.ld b1 (Rect.unit ![0, 7, 0, 0] ![1, 1, 8, 256] inb_S1x8x8x256_S1x1x8x256_0_7_0_0))

/-- The denominators from the sums, the step's logarithms, the merged logarithms, and the two weights. -/
def dnT (T : FVec Ideal S8x256 .f32) : FVec Ideal S8x256 .f32 :=
  select (cmpf .ogt T (broadcast S8x256 (Scalar.ofBits .f32 0x00000000#32))) T (broadcast S8x256 (Scalar.ofBits .f32 0x3F800000#32))
def stT (T : FVec Ideal S8x256 .f32) : FVec Ideal S8x256 .f32 :=
  select (cmpf .ogt T (broadcast S8x256 (Scalar.ofBits .f32 0x00000000#32)))
    (mulf (addf (shapeCast S8x256 b2 shapeCasts_S1x8x256_S8x256) (divf (log (dnT T)) (broadcast S8x256 (Scalar.ofBits .f32 0x3F317218#32))))
      (broadcast S8x256 (Scalar.ofBits .f32 0x3F317218#32)))
    (broadcast S8x256 (Scalar.ofBits .f32 0xFF800000#32))
def lsT (A B : FVec Ideal S8x256 .f32) : FVec Ideal S8x256 .f32 :=
  select (cmpf .one (subf A B) (subf A B)) (addf A B)
    (addf (maximumf A B) (log1p (exp (subf (broadcast S8x256 (Scalar.ofBits .f32 0x00000000#32)) (absf (subf A B))))))

def dn : FVec Ideal S8x256 .f32 := dnT (sm b1)
def st : FVec Ideal S8x256 .f32 := stT b2 (sm b1)
def ls : FVec Ideal S8x256 .f32 := lsT (k0_pay12 b4) (st b1 b2)
def wt : FVec Ideal S8x256 .f32 := k0_pay15 (st b1 b2) (ls b1 b2 b4)
def wr : FVec Ideal S256x128 .f32 := k0_pay16 (k0_pay12 b4) (ls b1 b2 b4)

theorem sm_at (h : Fin 8) (r : Fin 256) : sm b1 (ix2 h r) = (∑ i : Fin 8, b1 (ix4 0 h i r) : EReal) := by
  unfold sm
  pointwise [k0_pay8, k0_pay2, k0_pay3, k0_pay4, k0_pay5, k0_pay6, k0_pay7]
  fin_cases h <;> rfl

theorem dn_at (h : Fin 8) (r : Fin 256) : dn b1 (ix2 h r) = OutRow.den (fun i => b1 (ix4 0 h i r)) := by
  unfold dn dnT OutRow.den
  rw [← sm_at b1 h r]
  pointwise

theorem st_at (h : Fin 8) (r : Fin 256) : st b1 b2 (ix2 h r) = OutRow.lseStep (fun i => b1 (ix4 0 h i r)) (b2 (ix3 0 h r)) := by
  unfold OutRow.lseStep
  rw [← dn_at b1 h r, ← sm_at b1 h r]
  unfold st stT dn
  generalize dnT (sm b1) = D
  pointwise

theorem ls_at (h : Fin 8) (r : Fin 256) : ls b1 b2 b4 (ix2 h r) = OutRow.lse (fun i => b1 (ix4 0 h i r)) (b2 (ix3 0 h r)) (b4 (ix3 0 h r)) := by
  unfold OutRow.lse OutRow.logaddexp
  rw [← st_at b1 b2 h r]
  unfold ls lsT
  generalize st b1 b2 = B
  pointwise [k0_pay12]
  exact if_neg fun e => e rfl

theorem wt_at (h : Fin 8) (r : Fin 256) : wt b1 b2 b4 (ix2 h r)
    = Ideal.exp (OutRow.lseStep (fun i => b1 (ix4 0 h i r)) (b2 (ix3 0 h r)) - OutRow.lse (fun i => b1 (ix4 0 h i r)) (b2 (ix3 0 h r)) (b4 (ix3 0 h r))) := by
  rw [← st_at b1 b2 h r, ← ls_at b1 b2 b4 h r]
  unfold wt
  generalize st b1 b2 = B
  generalize ls b1 b2 b4 = L
  pointwise [k0_pay15]

theorem wr_at (h : Fin 8) (r : Fin 256) : wr b1 b2 b4 (ix2 r ⟨h.val, by omega⟩)
    = Ideal.exp (b4 (ix3 0 h r) - OutRow.lse (fun i => b1 (ix4 0 h i r)) (b2 (ix3 0 h r)) (b4 (ix3 0 h r))) := by
  rw [← ls_at b1 b2 b4 h r]
  unfold wr
  generalize ls b1 b2 b4 = L
  fin_vals h with hh
  all_goals pointwise [k0_pay16, k0_pay12]

/-! ## The kernel's words, folded -/

section Fold

variable (v3 v7 v11 v15 v19 v23 : FVec Ideal S1x256 .f32) (v24 v28 : Vec Ideal S1x1x8x256 .f32)

theorem dn_fold : k0_pay10 v3 v7 v11 v15 v19 v23 v24 v28 = dnT (k0_pay8 v3 v7 v11 v15 v19 v23 v24 v28) := rfl
theorem st_fold : k0_pay11 v3 v7 v11 v15 v19 v23 v24 v28 b2 = stT b2 (k0_pay8 v3 v7 v11 v15 v19 v23 v24 v28) := rfl
theorem ls_fold : k0_pay13 v3 v7 v11 v15 v19 v23 v24 v28 b2 b4 = lsT (k0_pay12 b4) (stT b2 (k0_pay8 v3 v7 v11 v15 v19 v23 v24 v28)) := rfl

theorem sm_fold : k0_pay8 (k0_pay2 (View.ld b1 (Rect.unit ![0, 0, 0, 0] ![1, 1, 8, 256] inb_S1x8x8x256_S1x1x8x256_0_0_0_0)))
    (k0_pay3 (View.ld b1 (Rect.unit ![0, 1, 0, 0] ![1, 1, 8, 256] inb_S1x8x8x256_S1x1x8x256_0_1_0_0)))
    (k0_pay4 (View.ld b1 (Rect.unit ![0, 2, 0, 0] ![1, 1, 8, 256] inb_S1x8x8x256_S1x1x8x256_0_2_0_0)))
    (k0_pay5 (View.ld b1 (Rect.unit ![0, 3, 0, 0] ![1, 1, 8, 256] inb_S1x8x8x256_S1x1x8x256_0_3_0_0)))
    (k0_pay6 (View.ld b1 (Rect.unit ![0, 4, 0, 0] ![1, 1, 8, 256] inb_S1x8x8x256_S1x1x8x256_0_4_0_0)))
    (k0_pay7 (View.ld b1 (Rect.unit ![0, 5, 0, 0] ![1, 1, 8, 256] inb_S1x8x8x256_S1x1x8x256_0_5_0_0)))
    (View.ld b1 (Rect.unit ![0, 6, 0, 0] ![1, 1, 8, 256] inb_S1x8x8x256_S1x1x8x256_0_6_0_0))
    (View.ld b1 (Rect.unit ![0, 7, 0, 0] ![1, 1, 8, 256] inb_S1x8x8x256_S1x1x8x256_0_7_0_0)) = sm b1 := rfl
theorem dn_sm : dnT (sm b1) = dn b1 := rfl
theorem st_sm : stT b2 (sm b1) = st b1 b2 := rfl
theorem ls_sm : lsT (k0_pay12 b4) (st b1 b2) = ls b1 b2 b4 := rfl
theorem wt_sm : k0_pay15 (st b1 b2) (ls b1 b2 b4) = wt b1 b2 b4 := rfl
theorem wr_sm : k0_pay16 (k0_pay12 b4) (ls b1 b2 b4) = wr b1 b2 b4 := rfl

end Fold

/-! ## The merged rows of a block -/

/-- Row `r`, head `h` of a block, merged. -/
def rowAt (r : Fin 256) (h : Fin 8) : Fin 128 → EReal :=
  OutRow.out (fun i => b1 (ix4 0 h i r)) (b2 (ix3 0 h r)) (b4 (ix3 0 h r)) (fun k => b0 (ix4 0 h k r)) (fun k => b3 (ix3 r h k))

theorem mrg_eq (a : Vec Ideal S1x1x128x256 .f32) (o : Vec Ideal S256x1x128 .f32) (h : Fin 8) (r : Fin 256) (k : Fin 128)
    (ha : a (ix4 0 0 k r) = b0 (ix4 0 h k r)) (ho : o (ix3 r 0 k) = b3 (ix3 r h k)) :
    mrg (dn b1) (wt b1 b2 b4) (wr b1 b2 b4) a o h r k = rowAt b0 b1 b2 b3 b4 r h k := by
  unfold mrg rowAt OutRow.out
  rw [dn_at, wt_at, wr_at, ha, ho]

variable (r : Fin 256) (k : Fin 128)

theorem rows0 : row0 (dn b1) (View.ld b0 (Rect.unit ![0, 0, 0, 0] ![1, 1, 128, 256] inb_S1x8x128x256_S1x1x128x256_0_0_0_0))
    (View.ld b3 (Rect.unit ![0, 0, 0] ![256, 1, 128] inb_S256x8x128_S256x1x128_0_0_0)) (st b1 b2) (k0_pay12 b4) (ls b1 b2 b4) (ix2 r k)
    = rowAt b0 b1 b2 b3 b4 r 0 k :=
  (row0_at _ _ _ _ _ _ _ _).trans (mrg_eq b0 b1 b2 b3 b4 _ _ 0 r k (by pointwise) (by pointwise))
theorem rows1 : row1 (dn b1) (wt b1 b2 b4) (wr b1 b2 b4) (View.ld b0 (Rect.unit ![0, 1, 0, 0] ![1, 1, 128, 256] inb_S1x8x128x256_S1x1x128x256_0_1_0_0))
    (View.ld b3 (Rect.unit ![0, 1, 0] ![256, 1, 128] inb_S256x8x128_S256x1x128_0_1_0)) (ix2 r k) = rowAt b0 b1 b2 b3 b4 r 1 k :=
  (row1_at _ _ _ _ _ _ _).trans (mrg_eq b0 b1 b2 b3 b4 _ _ 1 r k (by pointwise) (by pointwise))
theorem rows2 : row2 (dn b1) (wt b1 b2 b4) (wr b1 b2 b4) (View.ld b0 (Rect.unit ![0, 2, 0, 0] ![1, 1, 128, 256] inb_S1x8x128x256_S1x1x128x256_0_2_0_0))
    (View.ld b3 (Rect.unit ![0, 2, 0] ![256, 1, 128] inb_S256x8x128_S256x1x128_0_2_0)) (ix2 r k) = rowAt b0 b1 b2 b3 b4 r 2 k :=
  (row2_at _ _ _ _ _ _ _).trans (mrg_eq b0 b1 b2 b3 b4 _ _ 2 r k (by pointwise) (by pointwise))
theorem rows3 : row3 (dn b1) (wt b1 b2 b4) (wr b1 b2 b4) (View.ld b0 (Rect.unit ![0, 3, 0, 0] ![1, 1, 128, 256] inb_S1x8x128x256_S1x1x128x256_0_3_0_0))
    (View.ld b3 (Rect.unit ![0, 3, 0] ![256, 1, 128] inb_S256x8x128_S256x1x128_0_3_0)) (ix2 r k) = rowAt b0 b1 b2 b3 b4 r 3 k :=
  (row3_at _ _ _ _ _ _ _).trans (mrg_eq b0 b1 b2 b3 b4 _ _ 3 r k (by pointwise) (by pointwise))
theorem rows4 : row4 (dn b1) (wt b1 b2 b4) (wr b1 b2 b4) (View.ld b0 (Rect.unit ![0, 4, 0, 0] ![1, 1, 128, 256] inb_S1x8x128x256_S1x1x128x256_0_4_0_0))
    (View.ld b3 (Rect.unit ![0, 4, 0] ![256, 1, 128] inb_S256x8x128_S256x1x128_0_4_0)) (ix2 r k) = rowAt b0 b1 b2 b3 b4 r 4 k :=
  (row4_at _ _ _ _ _ _ _).trans (mrg_eq b0 b1 b2 b3 b4 _ _ 4 r k (by pointwise) (by pointwise))
theorem rows5 : row5 (dn b1) (wt b1 b2 b4) (wr b1 b2 b4) (View.ld b0 (Rect.unit ![0, 5, 0, 0] ![1, 1, 128, 256] inb_S1x8x128x256_S1x1x128x256_0_5_0_0))
    (View.ld b3 (Rect.unit ![0, 5, 0] ![256, 1, 128] inb_S256x8x128_S256x1x128_0_5_0)) (ix2 r k) = rowAt b0 b1 b2 b3 b4 r 5 k :=
  (row5_at _ _ _ _ _ _ _).trans (mrg_eq b0 b1 b2 b3 b4 _ _ 5 r k (by pointwise) (by pointwise))
theorem rows6 : row6 (dn b1) (wt b1 b2 b4) (wr b1 b2 b4) (View.ld b0 (Rect.unit ![0, 6, 0, 0] ![1, 1, 128, 256] inb_S1x8x128x256_S1x1x128x256_0_6_0_0))
    (View.ld b3 (Rect.unit ![0, 6, 0] ![256, 1, 128] inb_S256x8x128_S256x1x128_0_6_0)) (ix2 r k) = rowAt b0 b1 b2 b3 b4 r 6 k :=
  (row6_at _ _ _ _ _ _ _).trans (mrg_eq b0 b1 b2 b3 b4 _ _ 6 r k (by pointwise) (by pointwise))
theorem rows7 : row7 (dn b1) (wt b1 b2 b4) (wr b1 b2 b4) (View.ld b0 (Rect.unit ![0, 7, 0, 0] ![1, 1, 128, 256] inb_S1x8x128x256_S1x1x128x256_0_7_0_0))
    (View.ld b3 (Rect.unit ![0, 7, 0] ![256, 1, 128] inb_S256x8x128_S256x1x128_0_7_0)) (ix2 r k) = rowAt b0 b1 b2 b3 b4 r 7 k :=
  (row7_at _ _ _ _ _ _ _).trans (mrg_eq b0 b1 b2 b3 b4 _ _ 7 r k (by pointwise) (by pointwise))

/-! ## The blocks at an index -/

/-- The scale, the code and the dequantised code of a block at a row and a column. -/
def sclAt (r : Fin 256) (h : Fin 8) : EReal := OutRow.scl (rowAt b0 b1 b2 b3 b4 r h)
def codeAt (r : Fin 256) (n : Fin 1024) : EReal := OutRow.code (rowAt b0 b1 b2 b3 b4 r ⟨n.val / 128, by omega⟩) ⟨n.val % 128, by omega⟩
def obAt (r : Fin 256) (n : Fin 1024) : EReal :=
  codeAt b0 b1 b2 b3 b4 r n * sclAt b0 b1 b2 b3 b4 r ⟨n.val / 128, by omega⟩

theorem code_tile (O : FVec Ideal S256x128 .f32) (h : Fin 8) (z : S256x1024.Idx) (r : Fin 256) (k : Fin 128)
    (hO : ∀ x, O (ix2 r x) = rowAt b0 b1 b2 b3 b4 r h x) (h0 : (z 0).val = r.val) (h1 : (z 1).val = h.val * 128 + k.val) :
    (codeB O (ix2 r k) : EReal) = codeAt b0 b1 b2 b3 b4 (z 0) (z 1)
    ∧ (obB O (ix2 r k) : EReal) = obAt b0 b1 b2 b3 b4 (z 0) (z 1) := by
  rw [ob_at, code_at]
  obtain rfl : z 0 = r := Fin.ext h0
  have hj : (⟨(z 1).val / 128, Nat.div_lt_of_lt_mul (z 1).isLt⟩ : Fin 8) = h := Fin.ext (by show (z 1).val / 128 = h.val; omega)
  have hk : (⟨(z 1).val % 128, Nat.mod_lt _ (by decide)⟩ : Fin 128) = k := Fin.ext (by show (z 1).val % 128 = k.val; omega)
  unfold obAt codeAt sclAt
  rw [hj, hk, funext hO]
  exact ⟨rfl, rfl⟩

theorem scl_head (O : FVec Ideal S256x128 .f32) (h : Fin 8) (r : Fin 256)
    (hO : ∀ x, O (ix2 r x) = rowAt b0 b1 b2 b3 b4 r h x) : sclB O (ix2 r 0) = sclAt b0 b1 b2 b3 b4 r h := by
  unfold sclAt
  rw [scl_at, funext hO]

/-- Selecting by the lane number keeps the head whose number it is. -/
theorem sel_lane (a b : Nat) (u v : EReal) (ha : a < 8) (hb : b < 8) :
    (Scalar.select (IntOp.cmpi .eq (BitVec.ofNat 32 a) (BitVec.ofNat 32 b)) u v : EReal) = if a = b then u else v := by
  interval_cases a <;> interval_cases b <;> rfl

/-- Each head's lane holds the head's column. -/
theorem sel_cols (X : FVec Ideal S256x128 .f32) (S0 S1 S2 S3 S4 S5 S6 S7 : FVec Ideal S256x1 .f32) (g : Fin 8 → EReal) (r : Fin 256) (h : Fin 8)
    (e0 : S0 (ix2 r 0) = g 0) (e1 : S1 (ix2 r 0) = g 1) (e2 : S2 (ix2 r 0) = g 2) (e3 : S3 (ix2 r 0) = g 3)
    (e4 : S4 (ix2 r 0) = g 4) (e5 : S5 (ix2 r 0) = g 5) (e6 : S6 (ix2 r 0) = g 6) (e7 : S7 (ix2 r 0) = g 7) :
    extractStridedSlice S256x8 ![0, 0] (selB 7#32 (selB 6#32 (selB 5#32 (selB 4#32 (selB 3#32 (selB 2#32 (selB 1#32 (selB 0#32 X S0) S1) S2) S3) S4) S5) S6) S7)
      slices_S256x128_o0_0_S256x8 (ix2 r h) = g h := by
  pointwise
  fin_vals h with hh
  all_goals
    (simp (disch := omega) only [sel_lane, hh, Nat.reduceEqDiff, ↓reduceIte]
     first
       | exact (e7.trans (congrArg g (Fin.ext hh.symm)))
       | exact (e6.trans (congrArg g (Fin.ext hh.symm)))
       | exact (e5.trans (congrArg g (Fin.ext hh.symm)))
       | exact (e4.trans (congrArg g (Fin.ext hh.symm)))
       | exact (e3.trans (congrArg g (Fin.ext hh.symm)))
       | exact (e2.trans (congrArg g (Fin.ext hh.symm)))
       | exact (e1.trans (congrArg g (Fin.ext hh.symm)))
       | exact (e0.trans (congrArg g (Fin.ext hh.symm))))

/-- The output rows of a block. -/
def yAt (OB : Vec Ideal S256x1024 .bf16) (b5 : Vec Ideal S256x8192 .bf16) (b6 : Vec Ideal S1024x8192 .bf16) (r : Fin 256) (k : Fin 8192) : EReal :=
  (b5 (ix2 r k) : EReal) + (∑ n : Fin 1024, (OB (ix2 r n) : EReal) * (b6 (ix2 n k) : EReal) : EReal)

theorem y_close (OB : Vec Ideal S256x1024 .bf16) (b5 : Vec Ideal S256x8192 .bf16) (b6 : Vec Ideal S1024x8192 .bf16) (z : S256x8192.Idx)
    (r : Fin 256) (k : Fin 8192) (h0 : (z 0).val = r.val) (h1 : (z 1).val = k.val) :
    (b5 (ix2 r k) : EReal) + (∑ n : Fin 1024, (OB (ix2 r n) : EReal) * (b6 (ix2 n k) : EReal) : EReal) = yAt OB b5 b6 (z 0) (z 1) := by
  obtain rfl : z 0 = r := Fin.ext h0
  obtain rfl : z 1 = k := Fin.ext h1
  rfl

theorem ob_of (L : List (View.Piece (Elt Ideal) S256x1024 .bf16)) (v : View sig .tc .vmem S256x1024 .bf16)
    (hL : ∀ y, (View.canon L y : EReal) = obAt b0 b1 b2 b3 b4 (y 0) (y 1)) (inb) :
    v.readCov L (Rect.unit (s := S256x1024) ![0, 0] ![256, 1024] inb).toLoadRect
      = (fun y : S256x1024.Idx => (obAt b0 b1 b2 b3 b4 (y 0) (y 1) : EReal)) := by
  rw [View.readCov_eq_canon']
  funext j
  rw [hL]
  congr 1 <;> exact Fin.ext (by show 0 + 1 * _ = _; omega)

variable (m : (ℓ : Loc nD τ sig) → Buf (Elt Ideal) ℓ)

theorem lse_blk (c : Dev nD) (t : Fin cfg0.N) (q : Fin 1) (h : Fin 8) (r : Fin 256) :
    (outsAt0 m c t).2.1 (ix3 q h r) = ls (iblk m c 1 t) (iblk m c 2 t) (iblk m c 4 t) (ix2 h r) := by
  unfold outsAt0
  dsimp only
  frame_out

  generalize hb1 : (iblk m c 1 t : Vec Ideal S1x8x8x256 .f32) = b1
  generalize hb2 : (iblk m c 2 t : Vec Ideal S1x8x256 .f32) = b2
  generalize hb4 : (iblk m c 4 t : Vec Ideal S1x8x256 .f32) = b4
  change Vec Ideal S1x8x8x256 .f32 at b1
  change Vec Ideal S1x8x256 .f32 at b2
  change Vec Ideal S1x8x256 .f32 at b4
  clear hb1 hb2 hb4
  change shapeCast S1x8x256 (ls b1 b2 b4) shapeCasts_S8x256_S1x8x256 (ix3 q h r) = _
  generalize ls b1 b2 b4 = L
  pointwise

theorem codes_blk (c : Dev nD) (t : Fin cfg0.N) (z : S256x1024.Idx) :
    ((outsAt0 m c t).2.2.1 z : EReal) = codeAt (iblk m c 0 t) (iblk m c 1 t) (iblk m c 2 t) (iblk m c 3 t) (iblk m c 4 t) (z 0) (z 1) := by
  unfold outsAt0
  dsimp only
  frame_out
  generalize hb0 : (iblk m c 0 t : Vec Ideal S1x8x128x256 .f32) = b0
  generalize hb1 : (iblk m c 1 t : Vec Ideal S1x8x8x256 .f32) = b1
  generalize hb2 : (iblk m c 2 t : Vec Ideal S1x8x256 .f32) = b2
  generalize hb3 : (iblk m c 3 t : Vec Ideal S256x8x128 .f32) = b3
  generalize hb4 : (iblk m c 4 t : Vec Ideal S1x8x256 .f32) = b4
  change Vec Ideal S1x8x128x256 .f32 at b0
  change Vec Ideal S1x8x8x256 .f32 at b1
  change Vec Ideal S1x8x256 .f32 at b2
  change Vec Ideal S256x8x128 .f32 at b3
  change Vec Ideal S1x8x256 .f32 at b4
  clear hb0 hb1 hb2 hb3 hb4
  simp only [dn_fold, st_fold, ls_fold, sm_fold, dn_sm, st_sm, ls_sm, wt_sm, wr_sm]
  simp only [code0, code1, code2, code3, code4, code5, code6, code7]
  canon_tiles x h
  all_goals
    (idx_vars x
     first
       | exact (code_tile b0 b1 b2 b3 b4 _ 7 z x0 x1 (rows7 b0 b1 b2 b3 b4 x0) h0 h1).1
       | exact (code_tile b0 b1 b2 b3 b4 _ 6 z x0 x1 (rows6 b0 b1 b2 b3 b4 x0) h0 h1).1
       | exact (code_tile b0 b1 b2 b3 b4 _ 5 z x0 x1 (rows5 b0 b1 b2 b3 b4 x0) h0 h1).1
       | exact (code_tile b0 b1 b2 b3 b4 _ 4 z x0 x1 (rows4 b0 b1 b2 b3 b4 x0) h0 h1).1
       | exact (code_tile b0 b1 b2 b3 b4 _ 3 z x0 x1 (rows3 b0 b1 b2 b3 b4 x0) h0 h1).1
       | exact (code_tile b0 b1 b2 b3 b4 _ 2 z x0 x1 (rows2 b0 b1 b2 b3 b4 x0) h0 h1).1
       | exact (code_tile b0 b1 b2 b3 b4 _ 1 z x0 x1 (rows1 b0 b1 b2 b3 b4 x0) h0 h1).1
       | exact (code_tile b0 b1 b2 b3 b4 _ 0 z x0 x1 (rows0 b0 b1 b2 b3 b4 x0) h0 (h1.trans (by show x1.val = 0 * 128 + x1.val; omega))).1)

theorem scales_blk (c : Dev nD) (t : Fin cfg0.N) (r : Fin 256) (h : Fin 8) :
    (outsAt0 m c t).2.2.2 (ix2 r h) = sclAt (iblk m c 0 t) (iblk m c 1 t) (iblk m c 2 t) (iblk m c 3 t) (iblk m c 4 t) r h := by
  unfold outsAt0
  dsimp only
  frame_out
  generalize hb0 : (iblk m c 0 t : Vec Ideal S1x8x128x256 .f32) = b0
  generalize hb1 : (iblk m c 1 t : Vec Ideal S1x8x8x256 .f32) = b1
  generalize hb2 : (iblk m c 2 t : Vec Ideal S1x8x256 .f32) = b2
  generalize hb3 : (iblk m c 3 t : Vec Ideal S256x8x128 .f32) = b3
  generalize hb4 : (iblk m c 4 t : Vec Ideal S1x8x256 .f32) = b4
  change Vec Ideal S1x8x128x256 .f32 at b0
  change Vec Ideal S1x8x8x256 .f32 at b1
  change Vec Ideal S1x8x256 .f32 at b2
  change Vec Ideal S256x8x128 .f32 at b3
  change Vec Ideal S1x8x256 .f32 at b4
  clear hb0 hb1 hb2 hb3 hb4
  simp only [dn_fold, st_fold, ls_fold, sm_fold, dn_sm, st_sm, ls_sm, wt_sm, wr_sm]
  rw [sel7, sel6, sel5, sel4, sel3, sel2, sel1, sel0]
  exact sel_cols _ _ _ _ _ _ _ _ _ (sclAt b0 b1 b2 b3 b4 r) r h
    (scl_head b0 b1 b2 b3 b4 _ 0 r (rows0 b0 b1 b2 b3 b4 r))
    (scl_head b0 b1 b2 b3 b4 _ 1 r (rows1 b0 b1 b2 b3 b4 r))
    (scl_head b0 b1 b2 b3 b4 _ 2 r (rows2 b0 b1 b2 b3 b4 r))
    (scl_head b0 b1 b2 b3 b4 _ 3 r (rows3 b0 b1 b2 b3 b4 r))
    (scl_head b0 b1 b2 b3 b4 _ 4 r (rows4 b0 b1 b2 b3 b4 r))
    (scl_head b0 b1 b2 b3 b4 _ 5 r (rows5 b0 b1 b2 b3 b4 r))
    (scl_head b0 b1 b2 b3 b4 _ 6 r (rows6 b0 b1 b2 b3 b4 r))
    (scl_head b0 b1 b2 b3 b4 _ 7 r (rows7 b0 b1 b2 b3 b4 r))

theorem y_blk (c : Dev nD) (t : Fin cfg0.N) (z : S256x8192.Idx) :
    ((outsAt0 m c t).1 z : EReal)
      = yAt (fun y : S256x1024.Idx => (obAt (iblk m c 0 t) (iblk m c 1 t) (iblk m c 2 t) (iblk m c 3 t) (iblk m c 4 t) (y 0) (y 1) : EReal)) (iblk m c 5 t) (iblk m c 6 t) (z 0) (z 1) := by
  unfold outsAt0
  dsimp only
  frame_out
  generalize hb0 : (iblk m c 0 t : Vec Ideal S1x8x128x256 .f32) = b0
  generalize hb1 : (iblk m c 1 t : Vec Ideal S1x8x8x256 .f32) = b1
  generalize hb2 : (iblk m c 2 t : Vec Ideal S1x8x256 .f32) = b2
  generalize hb3 : (iblk m c 3 t : Vec Ideal S256x8x128 .f32) = b3
  generalize hb4 : (iblk m c 4 t : Vec Ideal S1x8x256 .f32) = b4
  change Vec Ideal S1x8x128x256 .f32 at b0
  change Vec Ideal S1x8x8x256 .f32 at b1
  change Vec Ideal S1x8x256 .f32 at b2
  change Vec Ideal S256x8x128 .f32 at b3
  change Vec Ideal S1x8x256 .f32 at b4
  clear hb0 hb1 hb2 hb3 hb4
  simp only [dn_fold, st_fold, ls_fold, sm_fold, dn_sm, st_sm, ls_sm, wt_sm, wr_sm]
  generalize hb5 : (iblk m c 5 t : Vec Ideal S256x8192 .bf16) = b5
  generalize hb6 : (iblk m c 6 t : Vec Ideal S1024x8192 .bf16) = b6
  change Vec Ideal S256x8192 .bf16 at b5
  change Vec Ideal S1024x8192 .bf16 at b6
  clear hb5 hb6
  simp only [ob0, ob1, ob2, ob3, ob4, ob5, ob6, ob7]
  rw [ob_of b0 b1 b2 b3 b4]
  · generalize (fun y : S256x1024.Idx => (obAt b0 b1 b2 b3 b4 (y 0) (y 1) : EReal)) = OB
    change Vec Ideal S256x1024 .bf16 at OB
    canon_tiles x h
    all_goals
      (idx_vars x
       pointwise [k0_pay83, k0_pay84, k0_pay85, k0_pay86, k0_pay87, k0_pay88, k0_pay89, k0_pay90, k0_pay1]
       exact y_close OB b5 b6 z _ _ h0 h1)
  · intro z
    canon_tiles x h
    all_goals
      (idx_vars x
       first
         | exact (code_tile b0 b1 b2 b3 b4 _ 7 z x0 x1 (rows7 b0 b1 b2 b3 b4 x0) h0 h1).2
         | exact (code_tile b0 b1 b2 b3 b4 _ 6 z x0 x1 (rows6 b0 b1 b2 b3 b4 x0) h0 h1).2
         | exact (code_tile b0 b1 b2 b3 b4 _ 5 z x0 x1 (rows5 b0 b1 b2 b3 b4 x0) h0 h1).2
         | exact (code_tile b0 b1 b2 b3 b4 _ 4 z x0 x1 (rows4 b0 b1 b2 b3 b4 x0) h0 h1).2
         | exact (code_tile b0 b1 b2 b3 b4 _ 3 z x0 x1 (rows3 b0 b1 b2 b3 b4 x0) h0 h1).2
         | exact (code_tile b0 b1 b2 b3 b4 _ 2 z x0 x1 (rows2 b0 b1 b2 b3 b4 x0) h0 h1).2
         | exact (code_tile b0 b1 b2 b3 b4 _ 1 z x0 x1 (rows1 b0 b1 b2 b3 b4 x0) h0 h1).2
         | exact (code_tile b0 b1 b2 b3 b4 _ 0 z x0 x1 (rows0 b0 b1 b2 b3 b4 x0) h0 (h1.trans (by show x1.val = 0 * 128 + x1.val; omega))).2)

end Cert.AttnOutIdeal.Block

end
-- ==== Proof.OutSpec.lean ====
/-
  The output step as functions of its argument arrays: the merged rows, their logarithms of summed exponentials, scales and
  codes, and the output projection.
-/
module

public import proofs.«01_k».proof.Proof.OutRow
public import proofs.«01_k».proof.Proof.Gen.AttnOutIdeal.Value
public import Idealize.ShloMosaic.Lib.Pointwise

@[expose] public section

noncomputable section

open Idealize.ShloMosaic Idealize.ShloMosaic.TcCoe Cert.AttnOutIdeal

namespace Cert.OutSpec

variable (a0 : Vec Ideal S3x8x128x4096 .f32) (a1 : Vec Ideal S3x8x8x4096 .f32) (a2 : Vec Ideal S3x8x4096 .f32)
  (a3 : Vec Ideal S3x4096x8x128 .f32) (a4 : Vec Ideal S3x8x4096 .f32) (a5 : Vec Ideal S3x4096x8192 .bf16) (a6 : Vec Ideal S1024x8192 .bf16)

/-- The merged row of head `h` at position `s` of sequence `b`. -/
def row (b : Fin 3) (s : Fin 4096) (h : Fin 8) : Fin 128 → EReal :=
  OutRow.out (fun i => a1 (ix4 b h i s)) (a2 (ix3 b h s)) (a4 (ix3 b h s)) (fun k => a0 (ix4 b h k s)) (fun k => a3 (ix4 b s h k))

/-- The row's logarithm of summed exponentials. -/
def lse (b : Fin 3) (h : Fin 8) (s : Fin 4096) : EReal :=
  OutRow.lse (fun i => a1 (ix4 b h i s)) (a2 (ix3 b h s)) (a4 (ix3 b h s))

/-- The row's scale and its codes. -/
def scale (b : Fin 3) (s : Fin 4096) (h : Fin 8) : EReal := OutRow.scl (row a0 a1 a2 a3 a4 b s h)
def code (b : Fin 3) (s : Fin 4096) (h : Fin 8) (k : Fin 128) : EReal := OutRow.code (row a0 a1 a2 a3 a4 b s h) k

/-- The dequantised row, the heads side by side. -/
def deq (b : Fin 3) (s : Fin 4096) (n : Fin 1024) : EReal :=
  code a0 a1 a2 a3 a4 b s ⟨n.val / 128, by omega⟩ ⟨n.val % 128, by omega⟩ * scale a0 a1 a2 a3 a4 b s ⟨n.val / 128, by omega⟩

/-- The output row: the input row and the projection of the dequantised row. -/
def proj (b : Fin 3) (s : Fin 4096) (k : Fin 8192) : EReal :=
  (a5 (ix3 b s k) : EReal) + (∑ n : Fin 1024, deq a0 a1 a2 a3 a4 b s n * (a6 (ix2 n k) : EReal) : EReal)

end Cert.OutSpec

end
-- ==== Proof.OutFinal.lean ====
/-
  The four result arrays of the output step's run, at an index, are the functions of `Proof/OutSpec.lean`.
-/
module

public import proofs.«01_k».proof.Proof.OutBlock
public import proofs.«01_k».proof.Proof.OutSpec

@[expose] public section

set_option maxRecDepth 16384

noncomputable section

open Idealize.ShloMosaic Idealize.ShloMosaic.TcCoe

namespace Cert.AttnOutIdeal.Final

open Cert.AttnOutIdeal Cert.AttnOutIdeal.Gen Cert.AttnOutIdeal.Block

variable (m : (ℓ : Loc nD τ sig) → Buf (Elt Ideal) ℓ)

/-! ## Where each window's block lies -/

theorem idx0 : ∀ t : Fin grid0.N, win0_0.index t = ![t.val / 16, 0, 0, t.val % 16] ∧ win0_1.index t = ![t.val / 16, 0, 0, t.val % 16] := by decide +kernel
theorem idx2 : ∀ t : Fin grid0.N, win0_2.index t = ![t.val / 16, 0, t.val % 16] ∧ win0_4.index t = ![t.val / 16, 0, t.val % 16]
    ∧ win0_8.index t = ![t.val / 16, 0, t.val % 16] := by decide +kernel
theorem idx3 : ∀ t : Fin grid0.N, win0_3.index t = ![t.val, 0, 0] ∧ win0_5.index t = ![t.val, 0] ∧ win0_6.index t = ![0, 0] := by decide +kernel
theorem idx7 : ∀ t : Fin grid0.N, win0_7.index t = ![t.val, 0] ∧ win0_9.index t = ![t.val, 0] ∧ win0_10.index t = ![t.val, 0] := by decide +kernel

/-- The argument arrays. -/
abbrev A0 (c : Dev nD) : Vec Ideal S3x8x128x4096 .f32 := m ((c : Thread nD τ).loc main_arg0)
abbrev A1 (c : Dev nD) : Vec Ideal S3x8x8x4096 .f32 := m ((c : Thread nD τ).loc main_arg1)
abbrev A2 (c : Dev nD) : Vec Ideal S3x8x4096 .f32 := m ((c : Thread nD τ).loc main_arg2)
abbrev A3 (c : Dev nD) : Vec Ideal S3x4096x8x128 .f32 := m ((c : Thread nD τ).loc main_arg3)
abbrev A4 (c : Dev nD) : Vec Ideal S3x8x4096 .f32 := m ((c : Thread nD τ).loc main_arg4)
abbrev A5 (c : Dev nD) : Vec Ideal S3x4096x8192 .bf16 := m ((c : Thread nD τ).loc main_arg5)
abbrev A6 (c : Dev nD) : Vec Ideal S1024x8192 .bf16 := m ((c : Thread nD τ).loc main_arg6)

theorem ltN {n : ℕ} (h : n < cfg0.N) : n < 48 := h

/-- A point's sequence and the position of its row `r`. -/
abbrev bb (t : Fin cfg0.N) : Fin 3 := ⟨t.val / 16, by have := ltN t.isLt; omega⟩
abbrev ss (t : Fin cfg0.N) (r : Fin 256) : Fin 4096 := ⟨t.val % 16 * 256 + r.val, by omega⟩

theorem in0 (c : Dev nD) (t : Fin cfg0.N) (h : Fin 8) (k : Fin 128) (r : Fin 256) :
    (iblk m c 0 t : Vec Ideal S1x8x128x256 .f32) (ix4 0 h k r) = A0 m c (ix4 (bb t) h k (ss t r)) := by
  blk_simp [iblk]
  have e : (win0_0.blk t).view.emb (ix4 0 h k r) = (ix4 (bb t) h k (ss t r) : S3x8x128x4096.Idx) := by
    blk_ext [(idx0 t).1]
  rw [e, V_main_arg0]

theorem in1 (c : Dev nD) (t : Fin cfg0.N) (h : Fin 8) (i : Fin 8) (r : Fin 256) :
    (iblk m c 1 t : Vec Ideal S1x8x8x256 .f32) (ix4 0 h i r) = A1 m c (ix4 (bb t) h i (ss t r)) := by
  blk_simp [iblk]
  have e : (win0_1.blk t).view.emb (ix4 0 h i r) = (ix4 (bb t) h i (ss t r) : S3x8x8x4096.Idx) := by
    blk_ext [(idx0 t).2]
  rw [e, V_main_arg1]

theorem in2 (c : Dev nD) (t : Fin cfg0.N) (h : Fin 8) (r : Fin 256) :
    (iblk m c 2 t : Vec Ideal S1x8x256 .f32) (ix3 0 h r) = A2 m c (ix3 (bb t) h (ss t r)) := by
  blk_simp [iblk]
  have e : (win0_2.blk t).view.emb (ix3 0 h r) = (ix3 (bb t) h (ss t r) : S3x8x4096.Idx) := by
    blk_ext [(idx2 t).1]
  rw [e, V_main_arg2]

theorem in4 (c : Dev nD) (t : Fin cfg0.N) (h : Fin 8) (r : Fin 256) :
    (iblk m c 4 t : Vec Ideal S1x8x256 .f32) (ix3 0 h r) = A4 m c (ix3 (bb t) h (ss t r)) := by
  blk_simp [iblk]
  have e : (win0_4.blk t).view.emb (ix3 0 h r) = (ix3 (bb t) h (ss t r) : S3x8x4096.Idx) := by
    blk_ext [(idx2 t).2.1]
  rw [e, V_main_arg4]

theorem div_pt (t : Fin cfg0.N) (r : Fin 256) (h) : (⟨(t.val * 256 + r.val) / 4096, h⟩ : Fin 3) = bb t :=
  Fin.ext (by show (t.val * 256 + r.val) / 4096 = t.val / 16; omega)
theorem mod_pt (t : Fin cfg0.N) (r : Fin 256) (h) : (⟨(t.val * 256 + r.val) % 4096, h⟩ : Fin 4096) = ss t r :=
  Fin.ext (by show (t.val * 256 + r.val) % 4096 = t.val % 16 * 256 + r.val; omega)

theorem in3 (c : Dev nD) (t : Fin cfg0.N) (r : Fin 256) (h : Fin 8) (k : Fin 128) :
    (iblk m c 3 t : Vec Ideal S256x8x128 .f32) (ix3 r h k) = A3 m c (ix4 (bb t) (ss t r) h k) := by
  have hl := ltN t.isLt
  rw [← div_pt t r (by omega), ← mod_pt t r (by omega)]
  blk_simp [iblk]
  have e : (win0_3.blk t).view.emb (ix3 r h k) = (ix3 ⟨t.val * 256 + r.val, by omega⟩ h k : S12288x8x128.Idx) := by
    blk_ext [(idx3 t).1]
  rw [e]
  entry_read
  pointwise

theorem in5 (c : Dev nD) (t : Fin cfg0.N) (r : Fin 256) (k : Fin 8192) :
    (iblk m c 5 t : Vec Ideal S256x8192 .bf16) (ix2 r k) = A5 m c (ix3 (bb t) (ss t r) k) := by
  have hl := ltN t.isLt
  rw [← div_pt t r (by omega), ← mod_pt t r (by omega)]
  blk_simp [iblk]
  have e : (win0_5.blk t).view.emb (ix2 r k) = (ix2 ⟨t.val * 256 + r.val, by omega⟩ k : S12288x8192.Idx) := by
    blk_ext [(idx3 t).2.1]
  rw [e]
  entry_read
  pointwise

theorem in6 (c : Dev nD) (t : Fin cfg0.N) : (iblk m c 6 t : Vec Ideal S1024x8192 .bf16) = A6 m c := by
  funext y
  blk_simp [iblk]
  have e : (win0_6.blk t).view.emb y = y := by
    blk_ext [(idx3 t).2.2]
  rw [e, V_main_arg6]

/-! ## A point's blocks -/

/-- A row of a point's block is its row of the arrays. -/
theorem row_pt (c : Dev nD) (t : Fin cfg0.N) (r : Fin 256) (h : Fin 8) :
    rowAt (iblk m c 0 t) (iblk m c 1 t) (iblk m c 2 t) (iblk m c 3 t) (iblk m c 4 t) r h
      = OutSpec.row (A0 m c) (A1 m c) (A2 m c) (A3 m c) (A4 m c) (bb t) (ss t r) h := by
  unfold rowAt OutSpec.row
  have e0 := funext fun k => in0 m c t h k r
  have e1 := funext fun i => in1 m c t h i r
  have e3 := funext fun k => in3 m c t r h k
  rw [e0, e1, e3, in2 m c t h r, in4 m c t h r]

theorem lse_pt (c : Dev nD) (t : Fin cfg0.N) (q : Fin 1) (h : Fin 8) (r : Fin 256) :
    (outsAt0 m c t).2.1 (ix3 q h r) = OutSpec.lse (A1 m c) (A2 m c) (A4 m c) (bb t) h (ss t r) := by
  rw [lse_blk, ls_at]
  unfold OutSpec.lse
  have e1 := funext fun i => in1 m c t h i r
  rw [e1, in2 m c t h r, in4 m c t h r]

theorem scl_pt (c : Dev nD) (t : Fin cfg0.N) (r : Fin 256) (h : Fin 8) :
    sclAt (iblk m c 0 t) (iblk m c 1 t) (iblk m c 2 t) (iblk m c 3 t) (iblk m c 4 t) r h
      = OutSpec.scale (A0 m c) (A1 m c) (A2 m c) (A3 m c) (A4 m c) (bb t) (ss t r) h := by
  unfold sclAt OutSpec.scale
  rw [row_pt]

theorem code_pt (c : Dev nD) (t : Fin cfg0.N) (r : Fin 256) (n : Fin 1024) :
    codeAt (iblk m c 0 t) (iblk m c 1 t) (iblk m c 2 t) (iblk m c 3 t) (iblk m c 4 t) r n
      = OutSpec.code (A0 m c) (A1 m c) (A2 m c) (A3 m c) (A4 m c) (bb t) (ss t r) ⟨n.val / 128, by omega⟩ ⟨n.val % 128, by omega⟩ := by
  unfold codeAt OutSpec.code
  rw [row_pt]

theorem y_pt (c : Dev nD) (t : Fin cfg0.N) (r : Fin 256) (k : Fin 8192) :
    ((outsAt0 m c t).1 (ix2 r k) : EReal)
      = OutSpec.proj (A0 m c) (A1 m c) (A2 m c) (A3 m c) (A4 m c) (A5 m c) (A6 m c) (bb t) (ss t r) k := by
  refine (y_blk m c t (ix2 r k)).trans ?_
  unfold yAt OutSpec.proj
  refine congrArg₂ (· + ·) (in5 m c t r k) (Finset.sum_congr rfl fun n _ => congrArg₂ (· * ·) ?_ (by rw [in6]; rfl))
  show obAt _ _ _ _ _ r n = _
  unfold obAt OutSpec.deq
  rw [code_pt, scl_pt]

/-! ## The arrays -/

/-- The output rows. -/
def F7 (c : Dev nD) : Vec Ideal S12288x8192 .bf16 := fun i =>
  OutSpec.proj (A0 m c) (A1 m c) (A2 m c) (A3 m c) (A4 m c) (A5 m c) (A6 m c) ⟨(i 0).val / 4096, Nat.div_lt_of_lt_mul (i 0).isLt⟩
    ⟨(i 0).val % 4096, Nat.mod_lt _ (by decide)⟩ (i 1)

/-- The logarithms of summed exponentials. -/
def F8 (c : Dev nD) : Vec Ideal S3x8x4096 .f32 := fun i => OutSpec.lse (A1 m c) (A2 m c) (A4 m c) (i 0) (i 1) (i 2)

/-- The codes, by rows. -/
def F9 (c : Dev nD) : Vec Ideal S12288x1024 .fp8e4m3 := fun i =>
  OutSpec.code (A0 m c) (A1 m c) (A2 m c) (A3 m c) (A4 m c) ⟨(i 0).val / 4096, Nat.div_lt_of_lt_mul (i 0).isLt⟩
    ⟨(i 0).val % 4096, Nat.mod_lt _ (by decide)⟩ ⟨(i 1).val / 128, Nat.div_lt_of_lt_mul (i 1).isLt⟩ ⟨(i 1).val % 128, Nat.mod_lt _ (by decide)⟩

/-- The scales, by rows. -/
def F10 (c : Dev nD) : Vec Ideal S12288x8 .f32 := fun i =>
  OutSpec.scale (A0 m c) (A1 m c) (A2 m c) (A3 m c) (A4 m c) ⟨(i 0).val / 4096, Nat.div_lt_of_lt_mul (i 0).isLt⟩
    ⟨(i 0).val % 4096, Nat.mod_lt _ (by decide)⟩ (i 1)

theorem final7 (c : Dev nD) : (dats m 0 c).arrAt 7 cfg0.N = F7 m c := by
  refine (dats m 0 c).arrAt_eq_of_covers 7 _ (by decide +kernel) fun t hf y => ?_
  blk_simp
  rw [after0_7]
  have hl := ltN t.isLt
  change S256x8192.Idx at y
  idx_vars y
  have e : (win0_7.blk t).view.emb (ix2 y0 y1) = (ix2 ⟨t.val * 256 + y0.val, by omega⟩ y1 : S12288x8192.Idx) := by
    blk_ext [(idx7 t).1]
  refine (y_pt m c t y0 y1).trans ?_
  rw [← div_pt t y0 (by omega), ← mod_pt t y0 (by omega)]
  exact (congrArg (F7 m c) e).symm

theorem final8 (c : Dev nD) : (dats m 0 c).arrAt 8 cfg0.N = F8 m c := by
  refine (dats m 0 c).arrAt_eq_of_covers 8 _ (by decide +kernel) fun t hf y => ?_
  blk_simp
  rw [after0_8]
  have hl := ltN t.isLt
  change S1x8x256.Idx at y
  idx_vars y
  have e : (win0_8.blk t).view.emb (ix3 y0 y1 y2) = (ix3 (bb t) y1 (ss t y2) : S3x8x4096.Idx) := by
    blk_ext [(idx2 t).2.2]
  refine (lse_pt m c t y0 y1 y2).trans ?_
  exact (congrArg (F8 m c) e).symm

theorem final9 (c : Dev nD) : (dats m 0 c).arrAt 9 cfg0.N = F9 m c := by
  refine (dats m 0 c).arrAt_eq_of_covers 9 _ (by decide +kernel) fun t hf y => ?_
  blk_simp
  rw [after0_9]
  have hl := ltN t.isLt
  change S256x1024.Idx at y
  idx_vars y
  have e : (win0_9.blk t).view.emb (ix2 y0 y1) = (ix2 ⟨t.val * 256 + y0.val, by omega⟩ y1 : S12288x1024.Idx) := by
    blk_ext [(idx7 t).2.1]
  refine ((codes_blk m c t (ix2 y0 y1)).trans (code_pt m c t y0 y1)).trans ?_
  rw [← div_pt t y0 (by omega), ← mod_pt t y0 (by omega)]
  exact (congrArg (F9 m c) e).symm

theorem final10 (c : Dev nD) : (dats m 0 c).arrAt 10 cfg0.N = F10 m c := by
  refine (dats m 0 c).arrAt_eq_of_covers 10 _ (by decide +kernel) fun t hf y => ?_
  blk_simp
  rw [after0_10]
  have hl := ltN t.isLt
  change S256x8.Idx at y
  idx_vars y
  have e : (win0_10.blk t).view.emb (ix2 y0 y1) = (ix2 ⟨t.val * 256 + y0.val, by omega⟩ y1 : S12288x8.Idx) := by
    blk_ext [(idx7 t).2.2]
  refine ((scales_blk m c t y0 y1).trans (scl_pt m c t y0 y1)).trans ?_
  rw [← div_pt t y0 (by omega), ← mod_pt t y0 (by omega)]
  exact (congrArg (F10 m c) e).symm

end Cert.AttnOutIdeal.Final

end
-- ==== Proof.OutRefRun.lean ====
/-
  The reference of the output step after its run, whole arrays at a time: it has one grid point and each of its windows is a
  whole array, so each of its four results is what the body computes of the arguments (`G7` to `G10`).
-/
module

public import proofs.«01_k».proof.Proof.Gen.AttnOutRefIdeal.Frame
public import Idealize.ShloMosaic.Lib.Pipeline.Value

@[expose] public section

noncomputable section

namespace Cert.AttnOutRefIdeal.Run

open Cert.AttnOutRefIdeal Cert.AttnOutRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S12288x8192.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3x8x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S12288x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S12288x8.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Closed form at one grid point: every window's block is its array -/

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S3x8x128x4096.Idx) : ((cfg0.win 0).blk t).view.emb j = j := by
  obtain ⟨e0, e1, e2, e3⟩ := idx_zero0 t
  funext a; apply Fin.ext
  match a with
  | ⟨0, _⟩ => show win0_0.index t (0 : Fin 4) * 3 + 1 * (j 0).val = (j 0).val; omega
  | ⟨1, _⟩ => show win0_0.index t (1 : Fin 4) * 8 + 1 * (j 1).val = (j 1).val; omega
  | ⟨2, _⟩ => show win0_0.index t (2 : Fin 4) * 128 + 1 * (j 2).val = (j 2).val; omega
  | ⟨3, _⟩ => show win0_0.index t (3 : Fin 4) * 4096 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S3x8x8x4096.Idx) : ((cfg0.win 1).blk t).view.emb j = j := by
  obtain ⟨e0, e1, e2, e3⟩ := idx_zero1 t
  funext a; apply Fin.ext
  match a with
  | ⟨0, _⟩ => show win0_1.index t (0 : Fin 4) * 3 + 1 * (j 0).val = (j 0).val; omega
  | ⟨1, _⟩ => show win0_1.index t (1 : Fin 4) * 8 + 1 * (j 1).val = (j 1).val; omega
  | ⟨2, _⟩ => show win0_1.index t (2 : Fin 4) * 8 + 1 * (j 2).val = (j 2).val; omega
  | ⟨3, _⟩ => show win0_1.index t (3 : Fin 4) * 4096 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S3x8x4096.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 8 + 1 * (j 1).val = (j 1).val; omega
  | ⟨2, _⟩ => show win0_2.index t (2 : Fin 3) * 4096 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0, 0] : Fin 4 → Nat) = fun _ => 0 := funext fun a => by fin_cases a <;> rfl

/-- Window 3's block index at the one point is zero on every axis. -/
theorem idx_zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- An index of window 3's block is the same index of its array. -/
theorem emb3 (t : Fin cfg0.N) (j : S3x4096x8x128.Idx) : ((cfg0.win 3).blk t).view.emb j = j := by
  obtain ⟨e0, e1, e2, e3⟩ := idx_zero3 t
  funext a; apply Fin.ext
  match a with
  | ⟨0, _⟩ => show win0_3.index t (0 : Fin 4) * 3 + 1 * (j 0).val = (j 0).val; omega
  | ⟨1, _⟩ => show win0_3.index t (1 : Fin 4) * 4096 + 1 * (j 1).val = (j 1).val; omega
  | ⟨2, _⟩ => show win0_3.index t (2 : Fin 4) * 8 + 1 * (j 2).val = (j 2).val; omega
  | ⟨3, _⟩ => show win0_3.index t (3 : Fin 4) * 128 + 1 * (j 3).val = (j 3).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S3x8x4096.Idx) : ((cfg0.win 4).blk t).view.emb j = j := by
  obtain ⟨e0, e1, e2⟩ := idx_zero4 t
  funext a; apply Fin.ext
  match a with
  | ⟨0, _⟩ => show win0_4.index t (0 : Fin 3) * 3 + 1 * (j 0).val = (j 0).val; omega
  | ⟨1, _⟩ => show win0_4.index t (1 : Fin 3) * 8 + 1 * (j 1).val = (j 1).val; omega
  | ⟨2, _⟩ => show win0_4.index t (2 : Fin 3) * 4096 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S3x4096x8192.Idx) : ((cfg0.win 5).blk t).view.emb j = j := by
  obtain ⟨e0, e1, e2⟩ := idx_zero5 t
  funext a; apply Fin.ext
  match a with
  | ⟨0, _⟩ => show win0_5.index t (0 : Fin 3) * 3 + 1 * (j 0).val = (j 0).val; omega
  | ⟨1, _⟩ => show win0_5.index t (1 : Fin 3) * 4096 + 1 * (j 1).val = (j 1).val; omega
  | ⟨2, _⟩ => show win0_5.index t (2 : Fin 3) * 8192 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1024x8192.Idx) : ((cfg0.win 6).blk t).view.emb j = j := by
  obtain ⟨e0, e1⟩ := idx_zero6 t
  funext a; apply Fin.ext
  match a with
  | ⟨0, _⟩ => show win0_6.index t (0 : Fin 2) * 1024 + 1 * (j 0).val = (j 0).val; omega
  | ⟨1, _⟩ => show win0_6.index t (1 : Fin 2) * 8192 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S12288x8192.Idx) : ((cfg0.win 7).blk t).view.emb j = j := by
  obtain ⟨e0, e1⟩ := idx_zero7 t
  funext a; apply Fin.ext
  match a with
  | ⟨0, _⟩ => show win0_7.index t (0 : Fin 2) * 12288 + 1 * (j 0).val = (j 0).val; omega
  | ⟨1, _⟩ => show win0_7.index t (1 : Fin 2) * 8192 + 1 * (j 1).val = (j 1).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S3x8x4096.Idx) : ((cfg0.win 8).blk t).view.emb j = j := by
  obtain ⟨e0, e1, e2⟩ := idx_zero8 t
  funext a; apply Fin.ext
  match a with
  | ⟨0, _⟩ => show win0_8.index t (0 : Fin 3) * 3 + 1 * (j 0).val = (j 0).val; omega
  | ⟨1, _⟩ => show win0_8.index t (1 : Fin 3) * 8 + 1 * (j 1).val = (j 1).val; omega
  | ⟨2, _⟩ => show win0_8.index t (2 : Fin 3) * 4096 + 1 * (j 2).val = (j 2).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S12288x1024.Idx) : ((cfg0.win 9).blk t).view.emb j = j := by
  obtain ⟨e0, e1⟩ := idx_zero9 t
  funext a; apply Fin.ext
  match a with
  | ⟨0, _⟩ => show win0_9.index t (0 : Fin 2) * 12288 + 1 * (j 0).val = (j 0).val; omega
  | ⟨1, _⟩ => show win0_9.index t (1 : Fin 2) * 1024 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S12288x8.Idx) : ((cfg0.win 10).blk t).view.emb j = j := by
  obtain ⟨e0, e1⟩ := idx_zero10 t
  funext a; apply Fin.ext
  match a with
  | ⟨0, _⟩ => show win0_10.index t (0 : Fin 2) * 12288 + 1 * (j 0).val = (j 0).val; omega
  | ⟨1, _⟩ => show win0_10.index t (1 : Fin 2) * 8 + 1 * (j 1).val = (j 1).val; omega

/-! ### Output window 7: the array after the run -/

/-- What the window's array ends holding: `out0_7` applied to the argument arrays in place of the input blocks (a value that the
    frame states apart, `kK_payN a…`, keeps its loads inside its own definition). -/
abbrev G7 (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : Vec F S12288x8192 .bf16 :=
  k0_pay1 (k0_pay15 (k0_pay16 a0 a1 a2 a3 a4 a5 a6) (k0_pay17 a0 a1 a2 a3 a4 a5 a6) (k0_pay18 a0 a1 a2 a3 a4 a5 a6) a3) a6 a5

/-- A load of the whole of a block reads the block, and the one store through the whole rectangle leaves its payload. -/
theorem out7_eq (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : out0_7 (F := F) a0 a1 a2 a3 a4 a5 a6 = G7 a0 a1 a2 a3 a4 a5 a6 := by
  unfold out0_7
  rw [View.canon_unit_zero hz7, View.ld_unit_zero (S := S3x4096x8x128) hz3 _ a3, View.ld_unit_zero (S := S1024x8192) hz6 _ a6, View.ld_unit_zero (S := S3x4096x8192) hz5 _ a5]

/-- Cutting the point's block out of `X` and reading `X` through the block's view give the same. -/
theorem cut7_eq (t : Fin cfg0.N) (X : Vec F S12288x8192 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S12288x8192.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : Vec F S3x8x4096 .f32 :=
  k0_pay9 a1 a2 a4

/-- A load of the whole of a block reads the block, and the one store through the whole rectangle leaves its payload. -/
theorem out8_eq (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : out0_8 (F := F) a0 a1 a2 a3 a4 a5 a6 = G8 a0 a1 a2 a3 a4 a5 a6 := by
  unfold out0_8
  rw [View.canon_unit_zero hz8, View.ld_unit_zero (S := S3x8x8x4096) hz1 _ a1, View.ld_unit_zero (S := S3x8x4096) hz2 _ a2, View.ld_unit_zero (S := S3x8x4096) hz4 _ a4]

/-- Cutting the point's block out of `X` and reading `X` through the block's view give the same. -/
theorem cut8_eq (t : Fin cfg0.N) (X : Vec F S3x8x4096 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S3x8x4096.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : Vec F S12288x1024 .fp8e4m3 :=
  k0_pay2 (k0_pay14 (k0_pay16 a0 a1 a2 a3 a4 a5 a6) (k0_pay17 a0 a1 a2 a3 a4 a5 a6) (k0_pay18 a0 a1 a2 a3 a4 a5 a6) a3)

/-- A load of the whole of a block reads the block, and the one store through the whole rectangle leaves its payload. -/
theorem out9_eq (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : out0_9 (F := F) a0 a1 a2 a3 a4 a5 a6 = G9 a0 a1 a2 a3 a4 a5 a6 := by
  unfold out0_9
  rw [View.canon_unit_zero hz9, View.ld_unit_zero (S := S3x4096x8x128) hz3 _ a3]

/-- Cutting the point's block out of `X` and reading `X` through the block's view give the same. -/
theorem cut9_eq (t : Fin cfg0.N) (X : Vec F S12288x1024 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S12288x1024.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : Vec F S12288x8 .f32 :=
  k0_pay3 (k0_pay13 (k0_pay16 a0 a1 a2 a3 a4 a5 a6) (k0_pay17 a0 a1 a2 a3 a4 a5 a6) (k0_pay18 a0 a1 a2 a3 a4 a5 a6) a3)

/-- A load of the whole of a block reads the block, and the one store through the whole rectangle leaves its payload. -/
theorem out10_eq (a0 : Vec F S3x8x128x4096 .f32) (a1 : Vec F S3x8x8x4096 .f32) (a2 : Vec F S3x8x4096 .f32) (a3 : Vec F S3x4096x8x128 .f32) (a4 : Vec F S3x8x4096 .f32) (a5 : Vec F S3x4096x8192 .bf16) (a6 : Vec F S1024x8192 .bf16) : out0_10 (F := F) a0 a1 a2 a3 a4 a5 a6 = G10 a0 a1 a2 a3 a4 a5 a6 := by
  unfold out0_10
  rw [View.canon_unit_zero hz10, View.ld_unit_zero (S := S3x4096x8x128) hz3 _ a3]

/-- Cutting the point's block out of `X` and reading `X` through the block's view give the same. -/
theorem cut10_eq (t : Fin cfg0.N) (X : Vec F S12288x8 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S12288x8.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_arg0) (V m c main_arg1) (V m c main_arg2) (V m c main_arg3) (V m c main_arg4) (V m c main_arg5) (V m c main_arg6)) (fun t _ => flushed10_eq m c t) covered10).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.AttnOutRefIdeal.Run

end
-- ==== Proof.OutRef.lean ====
/-
  The output step's reference: its four results at an index are the functions of `Proof/OutSpec.lean`.
-/
module

public import proofs.«01_k».proof.Proof.OutSpec
public import proofs.«01_k».proof.Proof.OutRefRun
public import Idealize.ShloMosaic.Lib.Pointwise

@[expose] public section

set_option maxRecDepth 16384

noncomputable section

open Idealize.ShloMosaic Idealize.ShloMosaic.TcCoe

namespace Cert.AttnOutRefIdeal.Row

open Cert.AttnOutRefIdeal Cert.AttnOutRefIdeal.Gen

variable (a0 : Vec Ideal S3x8x128x4096 .f32) (a1 : Vec Ideal S3x8x8x4096 .f32) (a2 : Vec Ideal S3x8x4096 .f32)
  (a3 : Vec Ideal S3x4096x8x128 .f32) (a4 : Vec Ideal S3x8x4096 .f32) (a5 : Vec Ideal S3x4096x8192 .bf16) (a6 : Vec Ideal S1024x8192 .bf16)

/-! ## The denominators and the logarithms -/

theorem sum_at (b : Fin 3) (h : Fin 8) (s : Fin 4096) : k0_pay4 a1 (ix3 b h s) = (∑ i : Fin 8, a1 (ix4 b h i s) : EReal) := by
  pointwise [k0_pay4]

theorem den_at (b : Fin 3) (h : Fin 8) (s : Fin 4096) : k0_pay6 a1 (ix3 b h s) = OutRow.den (fun i => a1 (ix4 b h i s)) := by
  unfold OutRow.den
  rw [← sum_at a1 b h s]
  unfold k0_pay6 k0_pay5
  generalize k0_pay4 a1 = T
  pointwise

theorem step_at (b : Fin 3) (h : Fin 8) (s : Fin 4096) :
    k0_pay7 a1 a2 (ix3 b h s) = OutRow.lseStep (fun i => a1 (ix4 b h i s)) (a2 (ix3 b h s)) := by
  unfold OutRow.lseStep
  rw [← den_at a1 b h s, ← sum_at a1 b h s]
  unfold k0_pay7 k0_pay5
  generalize k0_pay6 a1 = D
  generalize k0_pay4 a1 = T
  pointwise

theorem lse_at (b : Fin 3) (h : Fin 8) (s : Fin 4096) : k0_pay9 a1 a2 a4 (ix3 b h s) = OutSpec.lse a1 a2 a4 b h s := by
  unfold OutSpec.lse OutRow.lse OutRow.logaddexp
  rw [← step_at a1 a2 b h s]
  unfold k0_pay9
  generalize k0_pay7 a1 a2 = B
  pointwise
  exact if_neg fun e => e rfl

/-! ## The merged rows -/

theorem quot_at (b : Fin 3) (s : Fin 4096) (h : Fin 8) (k : Fin 128) :
    k0_pay8 a1 a0 (ix4 b s h k) = Ideal.div (a0 (ix4 b h k s)) (OutRow.den (fun i => a1 (ix4 b h i s))) := by
  rw [← den_at a1 b h s]
  unfold k0_pay8
  generalize k0_pay6 a1 = D
  pointwise

theorem wrun_at (b : Fin 3) (s : Fin 4096) (h : Fin 8) (q : Fin 1) :
    k0_pay10 a1 a2 a4 (ix4 b s h q) = Ideal.exp (a4 (ix3 b h s) - OutSpec.lse a1 a2 a4 b h s) := by
  rw [← lse_at]
  unfold k0_pay10
  generalize k0_pay9 a1 a2 a4 = L
  pointwise

theorem wstep_at (b : Fin 3) (h : Fin 8) (s : Fin 4096) :
    k0_pay11 a1 a2 a4 (ix3 b h s)
      = Ideal.exp (OutRow.lseStep (fun i => a1 (ix4 b h i s)) (a2 (ix3 b h s)) - OutSpec.lse a1 a2 a4 b h s) := by
  rw [← lse_at, ← step_at]
  unfold k0_pay11
  generalize k0_pay9 a1 a2 a4 = L
  generalize k0_pay7 a1 a2 = B
  pointwise

theorem mrg_at (Q : FVec Ideal S3x4096x8x128 .f32) (U : FVec Ideal S3x4096x8x1 .f32) (W : FVec Ideal S3x8x4096 .f32)
    (b : Fin 3) (s : Fin 4096) (h : Fin 8) (k : Fin 128) :
    k0_pay12 Q U W a3 (ix4 b s h k) = a3 (ix4 b s h k) * U (ix4 b s h 0) + Q (ix4 b s h k) * W (ix3 b h s) := by
  pointwise [k0_pay12]

/-- The merged row. -/
theorem row_at (b : Fin 3) (s : Fin 4096) (h : Fin 8) (k : Fin 128) :
    k0_pay12 (k0_pay8 a1 a0) (k0_pay10 a1 a2 a4) (k0_pay11 a1 a2 a4) a3 (ix4 b s h k) = OutSpec.row a0 a1 a2 a3 a4 b s h k := by
  rw [mrg_at, quot_at, wrun_at, wstep_at]
  rfl

/-! ## The scales and the codes -/

section Quant

variable (O : FVec Ideal S3x4096x8x128 .f32) (M : FVec Ideal S3x4096x8 .f32)

/-- The largest magnitude, and the same over 448. -/
def magV : FVec Ideal S3x4096x8 .f32 :=
  multiReduction .maximumf [3] S3x4096x8 (absf O) 0xFF800000#32 reduces_S3x4096x8x128_S3x4096x8 (.inl rfl) rfl
def ratV : FVec Ideal S3x4096x8 .f32 := mulf (magV O) (broadcast S3x4096x8 (Scalar.ofBits .f32 0x3B124925#32))

/-- The table's powers not above the ratio. -/
def powV : FVec Ideal S3x4096x8x256 .f32 :=
  exp2 (sitofp .f32 (subi (iota .tc S3x4096x8x256 32 [3] iota_S3x4096x8x256_d3_w32) (broadcast S3x4096x8x256 127#32)))
def tabV : FVec Ideal S3x4096x8x256 .f32 :=
  select (cmpf .ole powV (broadcastTo S3x4096x8x256 (shapeCast S3x4096x8x1 M shapeCasts_S3x4096x8_S3x4096x8x1) broadcasts_S3x4096x8x1_S3x4096x8x256))
    powV (broadcast S3x4096x8x256 (Scalar.ofBits .f32 0x00400000#32))
def maxV (T : FVec Ideal S3x4096x8x256 .f32) : FVec Ideal S3x4096x8 .f32 :=
  multiReduction .maximumf [3] S3x4096x8 T 0xFF800000#32 reduces_S3x4096x8x256_S3x4096x8 (.inl rfl) rfl
def sclV (B : FVec Ideal S3x4096x8 .f32) : FVec Ideal S3x4096x8 .f32 :=
  select (cmpf .oeq M (broadcast S3x4096x8 (Scalar.ofBits .f32 0x00000000#32))) (broadcast S3x4096x8 (Scalar.ofBits .f32 0x3F800000#32))
    (mulf (broadcast S3x4096x8 (Scalar.ofBits .f32 0x40000000#32)) B)

theorem mag_at (b : Fin 3) (s : Fin 4096) (h : Fin 8) : magV O (ix3 b s h)
    = Finset.fold max (Ideal.ofBits .f32 4286578688#32) (fun x => FloatOps.absf (F := Ideal) (φ := .f32) (O (ix4 b s h x))) Finset.univ := by
  pointwise [magV]

theorem times_at (x : EReal) (b : Fin 3) (s : Fin 4096) (h : Fin 8) :
    mulf M (broadcast S3x4096x8 (x : Ideal .f32)) (ix3 b s h) = M (ix3 b s h) * x := by
  pointwise

theorem rat_at (b : Fin 3) (s : Fin 4096) (h : Fin 8) : ratV O (ix3 b s h) = OutRow.ratio (fun k => O (ix4 b s h k)) := by
  have e : (Scalar.ofBits .f32 0x3B124925#32 : Ideal .f32) = Ideal.ofBits .f32 991054117#32 := rfl
  unfold ratV OutRow.ratio
  rw [e, times_at, mag_at]

theorem pow_at (b : Fin 3) (s : Fin 4096) (h : Fin 8) (k : Fin 256) : powV (ix4 b s h k) = OutRow.pow k := by
  unfold OutRow.pow
  pointwise [powV]
  rfl

theorem tab_at (b : Fin 3) (s : Fin 4096) (h : Fin 8) (k : Fin 256) :
    tabV M (ix4 b s h k) = if OutRow.pow k ≤ M (ix3 b s h) then OutRow.pow k else Ideal.ofBits .f32 4194304#32 := by
  rw [← pow_at b s h k]
  unfold tabV
  generalize powV = P
  pointwise

theorem below_at (b : Fin 3) (s : Fin 4096) (h : Fin 8) : maxV (tabV M) (ix3 b s h) = OutRow.below (M (ix3 b s h)) := by
  unfold OutRow.below
  rw [← funext (tab_at M b s h)]
  generalize tabV M = T
  pointwise [maxV]

theorem sel_at (B : FVec Ideal S3x4096x8 .f32) (b : Fin 3) (s : Fin 4096) (h : Fin 8) :
    sclV M B (ix3 b s h) = if M (ix3 b s h) = 0 then 1 else Ideal.ofBits .f32 1073741824#32 * B (ix3 b s h) := by
  pointwise [sclV]

theorem scl_at (b : Fin 3) (s : Fin 4096) (h : Fin 8) :
    sclV (ratV O) (maxV (tabV (ratV O))) (ix3 b s h) = OutRow.scl (fun k => O (ix4 b s h k)) := by
  rw [sel_at, below_at, rat_at]
  rfl

/-- The codes from the rows and the scales. -/
def codeV (S : FVec Ideal S3x4096x8 .f32) : FVec Ideal S3x4096x8x128 .fp8e4m3 :=
  truncf .fp8e4m3 (minimumf (broadcast S3x4096x8x128 (Scalar.ofBits .f32 0x43E00000#32))
    (maximumf (broadcast S3x4096x8x128 (Scalar.ofBits .f32 0xC3E00000#32))
      (mulf O (broadcastTo S3x4096x8x128 (shapeCast S3x4096x8x1 (divf (broadcast S3x4096x8 (Scalar.ofBits .f32 0x3F800000#32)) S)
        shapeCasts_S3x4096x8_S3x4096x8x1) broadcasts_S3x4096x8x1_S3x4096x8x128)))) bitsLt_fp8e4m3_f32

theorem codeV_at (S : FVec Ideal S3x4096x8 .f32) (b : Fin 3) (s : Fin 4096) (h : Fin 8) (k : Fin 128) :
    (codeV O S (ix4 b s h k) : EReal)
      = min (Ideal.ofBits .f32 1138753536#32) (max (Ideal.ofBits .f32 3286237184#32) (O (ix4 b s h k) * Ideal.div 1 (S (ix3 b s h)))) := by
  pointwise [codeV]

/-- The dequantised rows, the heads side by side. -/
def deqV (C : FVec Ideal S3x4096x8x128 .fp8e4m3) (S : FVec Ideal S3x4096x8 .f32) : FVec Ideal S12288x1024 .bf16 :=
  shapeCast S12288x1024 (mulf (extf .bf16 C bitsLt_fp8e4m3_bf16) (broadcastTo S3x4096x8x128
    (shapeCast S3x4096x8x1 (truncf .bf16 S bitsLt_bf16_f32) shapeCasts_S3x4096x8_S3x4096x8x1) broadcasts_S3x4096x8x1_S3x4096x8x128))
    shapeCasts_S3x4096x8x128_S12288x1024

theorem deqV_at (C : FVec Ideal S3x4096x8x128 .fp8e4m3) (S : FVec Ideal S3x4096x8 .f32) (r : Fin 12288) (n : Fin 1024) :
    (deqV C S (ix2 r n) : EReal)
      = (C (ix4 ⟨r.val / 4096, by omega⟩ ⟨r.val % 4096, by omega⟩ ⟨n.val / 128, by omega⟩ ⟨n.val % 128, by omega⟩) : EReal)
        * S (ix3 ⟨r.val / 4096, by omega⟩ ⟨r.val % 4096, by omega⟩ ⟨n.val / 128, by omega⟩) := by
  pointwise [deqV]

end Quant

variable (Q : FVec Ideal S3x4096x8x128 .f32) (U : FVec Ideal S3x4096x8x1 .f32) (W : FVec Ideal S3x8x4096 .f32)

theorem pay13_eq : k0_pay13 Q U W a3 = sclV (ratV (k0_pay12 Q U W a3)) (maxV (tabV (ratV (k0_pay12 Q U W a3)))) := rfl
theorem pay14_eq : k0_pay14 Q U W a3 = codeV (k0_pay12 Q U W a3) (k0_pay13 Q U W a3) := rfl
theorem pay15_eq : k0_pay15 Q U W a3 = deqV (k0_pay14 Q U W a3) (k0_pay13 Q U W a3) := rfl

theorem sclR_at (b : Fin 3) (s : Fin 4096) (h : Fin 8) : k0_pay13 (k0_pay8 a1 a0) (k0_pay10 a1 a2 a4) (k0_pay11 a1 a2 a4) a3 (ix3 b s h) = OutSpec.scale a0 a1 a2 a3 a4 b s h := by
  unfold OutSpec.scale
  rw [← funext (row_at a0 a1 a2 a3 a4 b s h)]
  exact (congrFun (pay13_eq a3 _ _ _) _).trans (scl_at _ b s h)

theorem codeR_at (b : Fin 3) (s : Fin 4096) (h : Fin 8) (k : Fin 128) :
    (k0_pay14 (k0_pay8 a1 a0) (k0_pay10 a1 a2 a4) (k0_pay11 a1 a2 a4) a3 (ix4 b s h k) : EReal) = OutSpec.code a0 a1 a2 a3 a4 b s h k := by
  refine ((congrFun (pay14_eq a3 _ _ _) _).trans (codeV_at _ _ b s h k)).trans ?_
  rw [row_at, sclR_at]
  rfl

theorem deqR_at (r : Fin 12288) (n : Fin 1024) : (k0_pay15 (k0_pay8 a1 a0) (k0_pay10 a1 a2 a4) (k0_pay11 a1 a2 a4) a3 (ix2 r n) : EReal)
    = OutSpec.deq a0 a1 a2 a3 a4 ⟨r.val / 4096, by omega⟩ ⟨r.val % 4096, by omega⟩ n := by
  refine ((congrFun (pay15_eq a3 _ _ _) _).trans (deqV_at _ _ r n)).trans ?_
  rw [codeR_at, sclR_at]
  rfl

/-! ## The results -/

theorem proj_at (D : FVec Ideal S12288x1024 .bf16) (r : Fin 12288) (k : Fin 8192) :
    (k0_pay1 D a6 a5 (ix2 r k) : EReal)
      = (a5 (ix3 ⟨r.val / 4096, by omega⟩ ⟨r.val % 4096, by omega⟩ k) : EReal) + (∑ n : Fin 1024, (D (ix2 r n) : EReal) * (a6 (ix2 n k) : EReal) : EReal) := by
  pointwise [k0_pay1]

theorem proj_of (D : FVec Ideal S12288x1024 .bf16) (r : Fin 12288) (k : Fin 8192)
    (hD : ∀ n, (D (ix2 r n) : EReal) = OutSpec.deq a0 a1 a2 a3 a4 ⟨r.val / 4096, by omega⟩ ⟨r.val % 4096, by omega⟩ n) :
    (k0_pay1 D a6 a5 (ix2 r k) : EReal) = OutSpec.proj a0 a1 a2 a3 a4 a5 a6 ⟨r.val / 4096, by omega⟩ ⟨r.val % 4096, by omega⟩ k := by
  rw [proj_at]
  unfold OutSpec.proj
  exact congrArg₂ (· + ·) rfl (Finset.sum_congr rfl fun n _ => congrArg₂ (· * ·) (hD n) rfl)

/-- The values the run names apart: the quotient and the two weights. -/
theorem pay16_eq : k0_pay16 a0 a1 a2 a3 a4 a5 a6 = k0_pay8 a1 a0 := by
  unfold k0_pay16
  rw [View.ld_unit_zero (S := S3x8x8x4096) Run.hz1 _ a1, View.ld_unit_zero (S := S3x8x128x4096) Run.hz0 _ a0]

theorem pay17_eq : k0_pay17 a0 a1 a2 a3 a4 a5 a6 = k0_pay10 a1 a2 a4 := by
  unfold k0_pay17
  rw [View.ld_unit_zero (S := S3x8x8x4096) Run.hz1 _ a1, View.ld_unit_zero (S := S3x8x4096) Run.hz2 _ a2, View.ld_unit_zero (S := S3x8x4096) Run.hz4 _ a4]

theorem pay18_eq : k0_pay18 a0 a1 a2 a3 a4 a5 a6 = k0_pay11 a1 a2 a4 := by
  unfold k0_pay18
  rw [View.ld_unit_zero (S := S3x8x8x4096) Run.hz1 _ a1, View.ld_unit_zero (S := S3x8x4096) Run.hz2 _ a2, View.ld_unit_zero (S := S3x8x4096) Run.hz4 _ a4]

theorem G7_at (r : Fin 12288) (k : Fin 8192) : (Run.G7 a0 a1 a2 a3 a4 a5 a6 (ix2 r k) : EReal)
    = OutSpec.proj a0 a1 a2 a3 a4 a5 a6 ⟨r.val / 4096, by omega⟩ ⟨r.val % 4096, by omega⟩ k := by
  unfold Run.G7
  rw [pay16_eq, pay17_eq, pay18_eq]
  exact proj_of a0 a1 a2 a3 a4 a5 a6 _ r k (deqR_at a0 a1 a2 a3 a4 r)

theorem G8_at (b : Fin 3) (h : Fin 8) (s : Fin 4096) : Run.G8 a0 a1 a2 a3 a4 a5 a6 (ix3 b h s) = OutSpec.lse a1 a2 a4 b h s :=
  lse_at a1 a2 a4 b h s

theorem codes_at (C : FVec Ideal S3x4096x8x128 .fp8e4m3) (r : Fin 12288) (n : Fin 1024) : (k0_pay2 C (ix2 r n) : EReal)
    = C (ix4 ⟨r.val / 4096, by omega⟩ ⟨r.val % 4096, by omega⟩ ⟨n.val / 128, by omega⟩ ⟨n.val % 128, by omega⟩) := by
  pointwise [k0_pay2]

theorem scales_at (S : FVec Ideal S3x4096x8 .f32) (r : Fin 12288) (h : Fin 8) :
    k0_pay3 S (ix2 r h) = S (ix3 ⟨r.val / 4096, by omega⟩ ⟨r.val % 4096, by omega⟩ h) := by
  pointwise [k0_pay3]

theorem G9_at (r : Fin 12288) (n : Fin 1024) : (Run.G9 a0 a1 a2 a3 a4 a5 a6 (ix2 r n) : EReal)
    = OutSpec.code a0 a1 a2 a3 a4 ⟨r.val / 4096, by omega⟩ ⟨r.val % 4096, by omega⟩ ⟨n.val / 128, by omega⟩ ⟨n.val % 128, by omega⟩ := by
  unfold Run.G9
  rw [pay16_eq, pay17_eq, pay18_eq]
  exact (codes_at (k0_pay14 (k0_pay8 a1 a0) (k0_pay10 a1 a2 a4) (k0_pay11 a1 a2 a4) a3) r n).trans (codeR_at a0 a1 a2 a3 a4 _ _ _ _)

theorem G10_at (r : Fin 12288) (h : Fin 8) : Run.G10 a0 a1 a2 a3 a4 a5 a6 (ix2 r h)
    = OutSpec.scale a0 a1 a2 a3 a4 ⟨r.val / 4096, by omega⟩ ⟨r.val % 4096, by omega⟩ h := by
  unfold Run.G10
  rw [pay16_eq, pay17_eq, pay18_eq]
  exact (scales_at (k0_pay13 (k0_pay8 a1 a0) (k0_pay10 a1 a2 a4) (k0_pay11 a1 a2 a4) a3) r h).trans (sclR_at a0 a1 a2 a3 a4 _ _ _)

end Cert.AttnOutRefIdeal.Row

end
-- ==== Proof.OutAlgebraic.lean ====
/-
  The output step and its reference leave the same four results.
-/
module

public import proofs.«01_k».proof.Defs
public import proofs.«01_k».proof.Proof.OutFinal
public import proofs.«01_k».proof.Proof.OutRef

@[expose] public section

set_option maxRecDepth 16384

noncomputable section

open Idealize.ShloMosaic Idealize.ShloMosaic.TcCoe Idealize.SL.Sem

namespace Cert.AttnOutIdeal.Final

open Cert.AttnOutIdeal Cert.AttnOutIdeal.Gen

variable (m : (ℓ : Loc nD τ sig) → Buf (Elt Ideal) ℓ)

theorem result7 (c : Dev nD) : Cert.AttnOutRefIdeal.Run.G7 (A0 m c) (A1 m c) (A2 m c) (A3 m c) (A4 m c) (A5 m c) (A6 m c) = F7 m c := by
  funext y
  idx_vars y
  exact Cert.AttnOutRefIdeal.Row.G7_at _ _ _ _ _ _ _ y0 y1

theorem result8 (c : Dev nD) : Cert.AttnOutRefIdeal.Run.G8 (A0 m c) (A1 m c) (A2 m c) (A3 m c) (A4 m c) (A5 m c) (A6 m c) = F8 m c := by
  funext y
  idx_vars y
  exact Cert.AttnOutRefIdeal.Row.G8_at _ _ _ _ _ _ _ y0 y1 y2

theorem result9 (c : Dev nD) : Cert.AttnOutRefIdeal.Run.G9 (A0 m c) (A1 m c) (A2 m c) (A3 m c) (A4 m c) (A5 m c) (A6 m c) = F9 m c := by
  funext y
  idx_vars y
  exact Cert.AttnOutRefIdeal.Row.G9_at _ _ _ _ _ _ _ y0 y1

theorem result10 (c : Dev nD) : Cert.AttnOutRefIdeal.Run.G10 (A0 m c) (A1 m c) (A2 m c) (A3 m c) (A4 m c) (A5 m c) (A6 m c) = F10 m c := by
  funext y
  idx_vars y
  exact Cert.AttnOutRefIdeal.Row.G10_at _ _ _ _ _ _ _ y0 y1

theorem algebraic : Cert.algebraic_AttnOutIdeal_AttnOutRefIdeal := by
  intro m g m' g' _ hagree
  refine ⟨fun c => F7 m c, fun c => F8 m c, fun c => F9 m c, fun c => F10 m c, ?_, ?_⟩
  · refine (θ_run _ _ _).mono (fun r h c => ?_) (Cert.AttnOutIdeal.Value.run_blocks m g)
    obtain ⟨h7, h8, h9, h10, h⟩ := h c
    exact ⟨h7.trans (final7 m c), h8.trans (final8 m c), h9.trans (final9 m c), h10.trans (final10 m c), h⟩
  · refine (θ_run _ _ _).mono (fun r h c => ?_) (Cert.AttnOutRefIdeal.Run.run m' g')
    obtain ⟨h7, h8, h9, h10, h⟩ := h c
    obtain ⟨a0, a1, a2, a3, a4, a5, a6⟩ := hagree c
    rw [a0, a1, a2, a3, a4, a5, a6] at h7 h8 h9 h10
    exact ⟨h7.trans (result7 m c), h8.trans (result8 m c), h9.trans (result9 m c), h10.trans (result10 m c), h⟩

end Cert.AttnOutIdeal.Final

end
-- ==== Proof.lean ====
/-
  The proof of `Cert.Claim`: the frames, and the equality of each call's and its reference's results at `Ideal`, for the
  query projection, for the dequantisations of the two weight matrices, and for the attention call's output step.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.DequantWq
public import proofs.«01_k».proof.Proof.Gen.DequantWq.Frame
public import proofs.«01_k».proof.Proof.Gen.DequantWqIdeal
public import proofs.«01_k».proof.Proof.Gen.DequantWqIdeal.Frame
public import proofs.«01_k».proof.Proof.Gen.DequantWqIdeal.Value
public import proofs.«01_k».proof.Proof.Gen.DequantWqRefIdeal
public import proofs.«01_k».proof.Proof.Gen.DequantWqRefIdeal.Frame
public import proofs.«01_k».proof.Proof.Gen.DequantWqRefIdeal.Value
public import proofs.«01_k».proof.Proof.Gen.DequantWo
public import proofs.«01_k».proof.Proof.Gen.DequantWo.Frame
public import proofs.«01_k».proof.Proof.Gen.DequantWoIdeal
public import proofs.«01_k».proof.Proof.Gen.DequantWoIdeal.Frame
public import proofs.«01_k».proof.Proof.Gen.DequantWoIdeal.Value
public import proofs.«01_k».proof.Proof.Gen.DequantWoRefIdeal
public import proofs.«01_k».proof.Proof.Gen.DequantWoRefIdeal.Frame
public import proofs.«01_k».proof.Proof.Gen.DequantWoRefIdeal.Value
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Frame
public import proofs.«01_k».proof.Proof.Final
public import proofs.«01_k».proof.Proof.RefRow
public import proofs.«01_k».proof.Proof.DequantWq
public import proofs.«01_k».proof.Proof.DequantWo
public import proofs.«01_k».proof.Proof.OutAlgebraic
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's results are the kernel's, index by index. -/
theorem results (m : (ℓ : Loc Cert.KernelIdeal.nD Cert.KernelIdeal.τ Cert.KernelIdeal.sig) → Buf (Elt Ideal) ℓ) (c : Dev Cert.KernelIdeal.nD) :
    Cert.ReferenceIdeal.Value.G6 (KernelIdeal.Final.A0 m c) (KernelIdeal.Final.A1 m c) (KernelIdeal.Final.A2 m c) (KernelIdeal.Final.A3 m c) (KernelIdeal.Final.A4 m c) (KernelIdeal.Final.A5 m c) = KernelIdeal.Final.F6 m c
    ∧ Cert.ReferenceIdeal.Value.G7 (KernelIdeal.Final.A0 m c) (KernelIdeal.Final.A1 m c) (KernelIdeal.Final.A2 m c) (KernelIdeal.Final.A3 m c) (KernelIdeal.Final.A4 m c) (KernelIdeal.Final.A5 m c) = KernelIdeal.Final.F7 m c
    ∧ Cert.ReferenceIdeal.Value.G8 (KernelIdeal.Final.A0 m c) (KernelIdeal.Final.A1 m c) (KernelIdeal.Final.A2 m c) (KernelIdeal.Final.A3 m c) (KernelIdeal.Final.A4 m c) (KernelIdeal.Final.A5 m c) = KernelIdeal.Final.F8 m c := by
  refine ⟨funext fun y => ?_, funext fun y => ?_, funext fun y => ?_⟩
  · idx_vars y
    exact Cert.ReferenceIdeal.Row.G6_at _ _ _ _ _ _ y0 y1
  · idx_vars y
    exact Cert.ReferenceIdeal.Row.G7_at _ _ _ _ _ _ y0 y1
  · idx_vars y
    exact Cert.ReferenceIdeal.Row.G8_at _ _ _ _ _ _ y0 y1 y2

theorem algebraic : Cert.algebraic_KernelIdeal_ReferenceIdeal := by
  intro m g m' g' _ hagree
  refine ⟨fun c => KernelIdeal.Final.F6 m c, fun c => KernelIdeal.Final.F7 m c, fun c => KernelIdeal.Final.F8 m c, ?_, ?_⟩
  · refine (θ_run _ _ _).mono (fun r h c => ?_) (Cert.KernelIdeal.Value.run_blocks m g)
    obtain ⟨h6, h7, h8, h⟩ := h c
    exact ⟨h6.trans (KernelIdeal.Final.final6 m c), h7.trans (KernelIdeal.Final.final7 m c), h8.trans (KernelIdeal.Final.final8 m c), h⟩
  · refine (θ_run _ _ _).mono (fun r h c => ?_) (Cert.ReferenceIdeal.Value.run m' g')
    obtain ⟨h6, h7, h8, h⟩ := h c
    obtain ⟨a0, a1, a2, a3, a4, a5⟩ := hagree c
    rw [a0, a1, a2, a3, a4, a5] at h6 h7 h8
    exact ⟨h6.trans (results m c).1, h7.trans (results m c).2.1, h8.trans (results m c).2.2, h⟩

theorem claim : Cert.Claim := ⟨Cert.Kernel.Gen.facts, Cert.KernelIdeal.Gen.facts, Cert.ReferenceIdeal.Gen.facts,
  Cert.DequantWq.Gen.facts, Cert.DequantWqIdeal.Gen.facts, Cert.DequantWqRefIdeal.Gen.facts,
  Cert.DequantWo.Gen.facts, Cert.DequantWoIdeal.Gen.facts, Cert.DequantWoRefIdeal.Gen.facts,
  Cert.AttnOut.Gen.facts, Cert.AttnOutIdeal.Gen.facts, Cert.AttnOutRefIdeal.Gen.facts,
  fun m ρ _ => Cert.Kernel.Gen.frame m ρ, fun m ρ _ => Cert.KernelIdeal.Gen.frame m ρ, fun m ρ _ => Cert.ReferenceIdeal.Gen.frame m ρ,
  fun m ρ _ => Cert.DequantWq.Gen.frame m ρ, fun m ρ _ => Cert.DequantWqIdeal.Gen.frame m ρ, fun m ρ _ => Cert.DequantWqRefIdeal.Gen.frame m ρ,
  fun m ρ _ => Cert.DequantWo.Gen.frame m ρ, fun m ρ _ => Cert.DequantWoIdeal.Gen.frame m ρ, fun m ρ _ => Cert.DequantWoRefIdeal.Gen.frame m ρ,
  fun m ρ _ => Cert.AttnOut.Gen.frame m ρ, fun m ρ _ => Cert.AttnOutIdeal.Gen.frame m ρ, fun m ρ _ => Cert.AttnOutRefIdeal.Gen.frame m ρ,
  trivial, algebraic, trivial, Cert.DequantWqIdeal.Deq.algebraic, trivial, Cert.DequantWoIdeal.Deq.algebraic,
  trivial, Cert.AttnOutIdeal.Final.algebraic⟩

end Cert.Proof

end
